-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![2048, 512]⟩ ⟨2, ![4096, 512]⟩ (Layout.meshBlock [2, 2] ![[1], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2048x512 : Shape := ⟨2, ![2048, 512]⟩
abbrev S4096x512 : Shape := ⟨2, ![4096, 512]⟩
abbrev S1024x512 : Shape := ⟨2, ![1024, 512]⟩
abbrev S17 : Shape := ⟨1, ![17]⟩
abbrev S2 : Shape := ⟨1, ![2]⟩
abbrev S_ : Shape := ⟨0, ![]⟩
abbrev S64x512 : Shape := ⟨2, ![64, 512]⟩
abbrev S1 : Shape := ⟨1, ![1]⟩
abbrev S32x512 : Shape := ⟨2, ![32, 512]⟩

abbrev nBuf : Space → Nat
  | .hbm => 2
  | .vmem => 4
  | .smem => 0
  | _ => 0

abbrev bufTy : (tb : Table) → Fin (tcTables nBuf tb) → BufTy
  | .hbm, ⟨0, _⟩ => ⟨S2048x512, .bf16⟩
  | .hbm, ⟨1, _⟩ => ⟨S4096x512, .bf16⟩
  | .local _ .vmem, ⟨0, _⟩ => ⟨S2048x512, .bf16⟩
  | .local _ .vmem, ⟨1, _⟩ => ⟨S4096x512, .bf16⟩
  | .local _ .vmem, ⟨2, _⟩ => ⟨S1024x512, .bf16⟩
  | .local _ .vmem, ⟨3, _⟩ => ⟨S1024x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 89 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | _ => false

abbrev sig : RefSig :=
  (ofTc nBuf bufTy 1 89 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v12 : BitVec 32 := Scalar.muli v2 c2_i32_7
  let v13 : BitVec 32 := Scalar.addi c0_i32 v12
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_8 : BitVec 32 := 1#32
  let v14 : BitVec 32 := Scalar.muli v6 c1_i32_8
  let v15 : BitVec 32 := Scalar.addi v13 v14
  v15.toNat
def k0_dev2 (d0 : Dev nD) : Nat :=
  let c0_i32_11 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_10 : BitVec 32 := 2#32
  let v16 : BitVec 32 := Scalar.muli v7 c2_i32_10
  let v17 : BitVec 32 := Scalar.addi c0_i32_11 v16
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v18 : BitVec 32 := Scalar.muli v5 c1_i32_12
  let v19 : BitVec 32 := Scalar.addi v17 v18
  v19.toNat
def k0_off1 (d0 : Dev nD) (c0_i32_14 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v20 : BitVec 32 := Scalar.muli v2 c1024_i32
  let v21 : BitVec 32 := Scalar.addi v20 c0_i32_14
  let v22 : Index := Scalar.indexCast v21
  let c0 : Index := 0#32
  ![v22.toNat, 0]
def k0_dev3 (d0 : Dev nD) : Nat :=
  let c0_i32_20 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_19 : BitVec 32 := 2#32
  let v28 : BitVec 32 := Scalar.muli v2 c2_i32_19
  let v29 : BitVec 32 := Scalar.addi c0_i32_20 v28
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_21 : BitVec 32 := 1#32
  let v30 : BitVec 32 := Scalar.muli v6 c1_i32_21
  let v31 : BitVec 32 := Scalar.addi v29 v30
  v31.toNat
def k0_dev4 (d0 : Dev nD) : Nat :=
  let c0_i32_32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_31 : BitVec 32 := 2#32
  let v46 : BitVec 32 := Scalar.muli v2 c2_i32_31
  let v47 : BitVec 32 := Scalar.addi c0_i32_32 v46
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_33 : BitVec 32 := 1#32
  let v48 : BitVec 32 := Scalar.muli v6 c1_i32_33
  let v49 : BitVec 32 := Scalar.addi v47 v48
  v49.toNat
def k0_dev5 (d0 : Dev nD) : Nat :=
  let c0_i32_44 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_43 : BitVec 32 := 2#32
  let v64 : BitVec 32 := Scalar.muli v2 c2_i32_43
  let v65 : BitVec 32 := Scalar.addi c0_i32_44 v64
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_45 : BitVec 32 := 1#32
  let v66 : BitVec 32 := Scalar.muli v6 c1_i32_45
  let v67 : BitVec 32 := Scalar.addi v65 v66
  v67.toNat
def k0_dev6 (d0 : Dev nD) : Nat :=
  let c0_i32_55 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_54 : BitVec 32 := 2#32
  let v82 : BitVec 32 := Scalar.muli v2 c2_i32_54
  let v83 : BitVec 32 := Scalar.addi c0_i32_55 v82
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_56 : BitVec 32 := 1#32
  let v84 : BitVec 32 := Scalar.muli v6 c1_i32_56
  let v85 : BitVec 32 := Scalar.addi v83 v84
  v85.toNat
def k0_dev7 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_65 : BitVec 32 := 2#32
  let v100 : BitVec 32 := Scalar.muli v2 c2_i32_65
  let v101 : BitVec 32 := Scalar.addi c0_i32_66 v100
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_67 : BitVec 32 := 1#32
  let v102 : BitVec 32 := Scalar.muli v6 c1_i32_67
  let v103 : BitVec 32 := Scalar.addi v101 v102
  v103.toNat
def k0_dev8 (d0 : Dev nD) : Nat :=
  let c0_i32_77 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_76 : BitVec 32 := 2#32
  let v118 : BitVec 32 := Scalar.muli v2 c2_i32_76
  let v119 : BitVec 32 := Scalar.addi c0_i32_77 v118
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_78 : BitVec 32 := 1#32
  let v120 : BitVec 32 := Scalar.muli v6 c1_i32_78
  let v121 : BitVec 32 := Scalar.addi v119 v120
  v121.toNat
def k0_dev9 (d0 : Dev nD) : Nat :=
  let c0_i32_88 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_87 : BitVec 32 := 2#32
  let v136 : BitVec 32 := Scalar.muli v2 c2_i32_87
  let v137 : BitVec 32 := Scalar.addi c0_i32_88 v136
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_89 : BitVec 32 := 1#32
  let v138 : BitVec 32 := Scalar.muli v6 c1_i32_89
  let v139 : BitVec 32 := Scalar.addi v137 v138
  v139.toNat
def k0_dev10 (d0 : Dev nD) : Nat :=
  let c0_i32_99 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_98 : BitVec 32 := 2#32
  let v154 : BitVec 32 := Scalar.muli v2 c2_i32_98
  let v155 : BitVec 32 := Scalar.addi c0_i32_99 v154
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_100 : BitVec 32 := 1#32
  let v156 : BitVec 32 := Scalar.muli v6 c1_i32_100
  let v157 : BitVec 32 := Scalar.addi v155 v156
  v157.toNat
def k0_dev11 (d0 : Dev nD) : Nat :=
  let c0_i32_110 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_109 : BitVec 32 := 2#32
  let v172 : BitVec 32 := Scalar.muli v2 c2_i32_109
  let v173 : BitVec 32 := Scalar.addi c0_i32_110 v172
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_111 : BitVec 32 := 1#32
  let v174 : BitVec 32 := Scalar.muli v6 c1_i32_111
  let v175 : BitVec 32 := Scalar.addi v173 v174
  v175.toNat
def k0_dev12 (d0 : Dev nD) : Nat :=
  let c0_i32_121 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_120 : BitVec 32 := 2#32
  let v190 : BitVec 32 := Scalar.muli v2 c2_i32_120
  let v191 : BitVec 32 := Scalar.addi c0_i32_121 v190
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_122 : BitVec 32 := 1#32
  let v192 : BitVec 32 := Scalar.muli v6 c1_i32_122
  let v193 : BitVec 32 := Scalar.addi v191 v192
  v193.toNat
def k0_dev13 (d0 : Dev nD) : Nat :=
  let c0_i32_132 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_131 : BitVec 32 := 2#32
  let v208 : BitVec 32 := Scalar.muli v2 c2_i32_131
  let v209 : BitVec 32 := Scalar.addi c0_i32_132 v208
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_133 : BitVec 32 := 1#32
  let v210 : BitVec 32 := Scalar.muli v6 c1_i32_133
  let v211 : BitVec 32 := Scalar.addi v209 v210
  v211.toNat
def k0_dev14 (d0 : Dev nD) : Nat :=
  let c0_i32_143 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_142 : BitVec 32 := 2#32
  let v226 : BitVec 32 := Scalar.muli v2 c2_i32_142
  let v227 : BitVec 32 := Scalar.addi c0_i32_143 v226
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_144 : BitVec 32 := 1#32
  let v228 : BitVec 32 := Scalar.muli v6 c1_i32_144
  let v229 : BitVec 32 := Scalar.addi v227 v228
  v229.toNat
def k0_dev15 (d0 : Dev nD) : Nat :=
  let c0_i32_154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_153 : BitVec 32 := 2#32
  let v244 : BitVec 32 := Scalar.muli v2 c2_i32_153
  let v245 : BitVec 32 := Scalar.addi c0_i32_154 v244
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_155 : BitVec 32 := 1#32
  let v246 : BitVec 32 := Scalar.muli v6 c1_i32_155
  let v247 : BitVec 32 := Scalar.addi v245 v246
  v247.toNat
def k0_dev16 (d0 : Dev nD) : Nat :=
  let c0_i32_165 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_164 : BitVec 32 := 2#32
  let v262 : BitVec 32 := Scalar.muli v2 c2_i32_164
  let v263 : BitVec 32 := Scalar.addi c0_i32_165 v262
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_166 : BitVec 32 := 1#32
  let v264 : BitVec 32 := Scalar.muli v6 c1_i32_166
  let v265 : BitVec 32 := Scalar.addi v263 v264
  v265.toNat
def k0_dev17 (d0 : Dev nD) : Nat :=
  let c0_i32_176 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_175 : BitVec 32 := 2#32
  let v280 : BitVec 32 := Scalar.muli v2 c2_i32_175
  let v281 : BitVec 32 := Scalar.addi c0_i32_176 v280
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_177 : BitVec 32 := 1#32
  let v282 : BitVec 32 := Scalar.muli v6 c1_i32_177
  let v283 : BitVec 32 := Scalar.addi v281 v282
  v283.toNat
def k0_off2 (d0 : Dev nD) (c960_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_182 : BitVec 32 := 1024#32
  let v290 : BitVec 32 := Scalar.muli v2 c1024_i32_182
  let v291 : BitVec 32 := Scalar.addi v290 c960_i32
  let v292 : Index := Scalar.indexCast v291
  let c0_183 : Index := 0#32
  ![v292.toNat, 0]
def k0_dev18 (d0 : Dev nD) : Nat :=
  let c0_i32_187 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_186 : BitVec 32 := 2#32
  let v298 : BitVec 32 := Scalar.muli v2 c2_i32_186
  let v299 : BitVec 32 := Scalar.addi c0_i32_187 v298
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_188 : BitVec 32 := 1#32
  let v300 : BitVec 32 := Scalar.muli v6 c1_i32_188
  let v301 : BitVec 32 := Scalar.addi v299 v300
  v301.toNat
def k0_dev19 (d0 : Dev nD) : Nat :=
  let c0_i32_198 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_197 : BitVec 32 := 2#32
  let v316 : BitVec 32 := Scalar.muli v2 c2_i32_197
  let v317 : BitVec 32 := Scalar.addi c0_i32_198 v316
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_199 : BitVec 32 := 1#32
  let v318 : BitVec 32 := Scalar.muli v6 c1_i32_199
  let v319 : BitVec 32 := Scalar.addi v317 v318
  v319.toNat
def k0_off3 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_206 : BitVec 32 := 1024#32
  let v327 : BitVec 32 := Scalar.muli v2 c1024_i32_206
  let v328 : BitVec 32 := Scalar.addi v8 v327
  let v329 : Index := Scalar.indexCast v328
  let c0_207 : Index := 0#32
  ![v329.toNat, 0]
def k0_off4 (d0 : Dev nD) : Fin 2 → Nat :=
  let c1_i32_208 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v331 : BitVec 32 := Scalar.subi c1_i32_208 v2
  let c1024_i32_209 : BitVec 32 := 1024#32
  let v332 : BitVec 32 := Scalar.muli v331 c1024_i32_209
  let v333 : Index := Scalar.indexCast v332
  let c0_210 : Index := 0#32
  ![v333.toNat, 0]
def k0_off5 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let c1_i32_211 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v336 : BitVec 32 := Scalar.subi c1_i32_211 v2
  let c1024_i32_212 : BitVec 32 := 1024#32
  let v337 : BitVec 32 := Scalar.muli v336 c1024_i32_212
  let v338 : BitVec 32 := Scalar.addi v8 v337
  let v339 : Index := Scalar.indexCast v338
  let c0_213 : Index := 0#32
  ![v339.toNat, 0]
def k0_off6 (d0 : Dev nD) (c0_i32_224 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c2048_i32_5 : BitVec 32 := 2048#32
  let v10 : BitVec 32 := Scalar.muli v9 c2048_i32_5
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_223 : BitVec 32 := 1024#32
  let v349 : BitVec 32 := Scalar.muli v2 c1024_i32_223
  let v350 : BitVec 32 := Scalar.addi v10 v349
  let v351 : BitVec 32 := Scalar.addi v350 c0_i32_224
  let c0_i32_230 : BitVec 32 := 0#32
  ![v351.toNat, 0]
def k0_dev20 (d0 : Dev nD) : Nat :=
  let c0_i32_228 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_227 : BitVec 32 := 2#32
  let v352 : BitVec 32 := Scalar.muli v7 c2_i32_227
  let v353 : BitVec 32 := Scalar.addi c0_i32_228 v352
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_229 : BitVec 32 := 1#32
  let v354 : BitVec 32 := Scalar.muli v5 c1_i32_229
  let v355 : BitVec 32 := Scalar.addi v353 v354
  v355.toNat
def k0_dev21 (d0 : Dev nD) : Nat :=
  let c0_i32_251 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_250 : BitVec 32 := 2#32
  let v377 : BitVec 32 := Scalar.muli v7 c2_i32_250
  let v378 : BitVec 32 := Scalar.addi c0_i32_251 v377
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_252 : BitVec 32 := 1#32
  let v379 : BitVec 32 := Scalar.muli v5 c1_i32_252
  let v380 : BitVec 32 := Scalar.addi v378 v379
  v380.toNat
def k0_dev22 (d0 : Dev nD) : Nat :=
  let c0_i32_274 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_273 : BitVec 32 := 2#32
  let v402 : BitVec 32 := Scalar.muli v7 c2_i32_273
  let v403 : BitVec 32 := Scalar.addi c0_i32_274 v402
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_275 : BitVec 32 := 1#32
  let v404 : BitVec 32 := Scalar.muli v5 c1_i32_275
  let v405 : BitVec 32 := Scalar.addi v403 v404
  v405.toNat
def k0_dev23 (d0 : Dev nD) : Nat :=
  let c0_i32_297 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_296 : BitVec 32 := 2#32
  let v427 : BitVec 32 := Scalar.muli v7 c2_i32_296
  let v428 : BitVec 32 := Scalar.addi c0_i32_297 v427
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_298 : BitVec 32 := 1#32
  let v429 : BitVec 32 := Scalar.muli v5 c1_i32_298
  let v430 : BitVec 32 := Scalar.addi v428 v429
  v430.toNat
def k0_dev24 (d0 : Dev nD) : Nat :=
  let c0_i32_320 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_319 : BitVec 32 := 2#32
  let v452 : BitVec 32 := Scalar.muli v7 c2_i32_319
  let v453 : BitVec 32 := Scalar.addi c0_i32_320 v452
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_321 : BitVec 32 := 1#32
  let v454 : BitVec 32 := Scalar.muli v5 c1_i32_321
  let v455 : BitVec 32 := Scalar.addi v453 v454
  v455.toNat
def k0_dev25 (d0 : Dev nD) : Nat :=
  let c0_i32_343 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_342 : BitVec 32 := 2#32
  let v477 : BitVec 32 := Scalar.muli v7 c2_i32_342
  let v478 : BitVec 32 := Scalar.addi c0_i32_343 v477
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_344 : BitVec 32 := 1#32
  let v479 : BitVec 32 := Scalar.muli v5 c1_i32_344
  let v480 : BitVec 32 := Scalar.addi v478 v479
  v480.toNat
def k0_dev26 (d0 : Dev nD) : Nat :=
  let c0_i32_366 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_365 : BitVec 32 := 2#32
  let v502 : BitVec 32 := Scalar.muli v7 c2_i32_365
  let v503 : BitVec 32 := Scalar.addi c0_i32_366 v502
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_367 : BitVec 32 := 1#32
  let v504 : BitVec 32 := Scalar.muli v5 c1_i32_367
  let v505 : BitVec 32 := Scalar.addi v503 v504
  v505.toNat
def k0_dev27 (d0 : Dev nD) : Nat :=
  let c0_i32_389 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_388 : BitVec 32 := 2#32
  let v527 : BitVec 32 := Scalar.muli v7 c2_i32_388
  let v528 : BitVec 32 := Scalar.addi c0_i32_389 v527
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_390 : BitVec 32 := 1#32
  let v529 : BitVec 32 := Scalar.muli v5 c1_i32_390
  let v530 : BitVec 32 := Scalar.addi v528 v529
  v530.toNat
def k0_dev28 (d0 : Dev nD) : Nat :=
  let c0_i32_412 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_411 : BitVec 32 := 2#32
  let v552 : BitVec 32 := Scalar.muli v7 c2_i32_411
  let v553 : BitVec 32 := Scalar.addi c0_i32_412 v552
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_413 : BitVec 32 := 1#32
  let v554 : BitVec 32 := Scalar.muli v5 c1_i32_413
  let v555 : BitVec 32 := Scalar.addi v553 v554
  v555.toNat
def k0_dev29 (d0 : Dev nD) : Nat :=
  let c0_i32_435 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_434 : BitVec 32 := 2#32
  let v577 : BitVec 32 := Scalar.muli v7 c2_i32_434
  let v578 : BitVec 32 := Scalar.addi c0_i32_435 v577
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_436 : BitVec 32 := 1#32
  let v579 : BitVec 32 := Scalar.muli v5 c1_i32_436
  let v580 : BitVec 32 := Scalar.addi v578 v579
  v580.toNat
def k0_dev30 (d0 : Dev nD) : Nat :=
  let c0_i32_458 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_457 : BitVec 32 := 2#32
  let v602 : BitVec 32 := Scalar.muli v7 c2_i32_457
  let v603 : BitVec 32 := Scalar.addi c0_i32_458 v602
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_459 : BitVec 32 := 1#32
  let v604 : BitVec 32 := Scalar.muli v5 c1_i32_459
  let v605 : BitVec 32 := Scalar.addi v603 v604
  v605.toNat
def k0_dev31 (d0 : Dev nD) : Nat :=
  let c0_i32_481 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_480 : BitVec 32 := 2#32
  let v627 : BitVec 32 := Scalar.muli v7 c2_i32_480
  let v628 : BitVec 32 := Scalar.addi c0_i32_481 v627
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_482 : BitVec 32 := 1#32
  let v629 : BitVec 32 := Scalar.muli v5 c1_i32_482
  let v630 : BitVec 32 := Scalar.addi v628 v629
  v630.toNat
def k0_dev32 (d0 : Dev nD) : Nat :=
  let c0_i32_504 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_503 : BitVec 32 := 2#32
  let v652 : BitVec 32 := Scalar.muli v7 c2_i32_503
  let v653 : BitVec 32 := Scalar.addi c0_i32_504 v652
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_505 : BitVec 32 := 1#32
  let v654 : BitVec 32 := Scalar.muli v5 c1_i32_505
  let v655 : BitVec 32 := Scalar.addi v653 v654
  v655.toNat
def k0_dev33 (d0 : Dev nD) : Nat :=
  let c0_i32_527 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_526 : BitVec 32 := 2#32
  let v677 : BitVec 32 := Scalar.muli v7 c2_i32_526
  let v678 : BitVec 32 := Scalar.addi c0_i32_527 v677
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_528 : BitVec 32 := 1#32
  let v679 : BitVec 32 := Scalar.muli v5 c1_i32_528
  let v680 : BitVec 32 := Scalar.addi v678 v679
  v680.toNat
def k0_dev34 (d0 : Dev nD) : Nat :=
  let c0_i32_550 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_549 : BitVec 32 := 2#32
  let v702 : BitVec 32 := Scalar.muli v7 c2_i32_549
  let v703 : BitVec 32 := Scalar.addi c0_i32_550 v702
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_551 : BitVec 32 := 1#32
  let v704 : BitVec 32 := Scalar.muli v5 c1_i32_551
  let v705 : BitVec 32 := Scalar.addi v703 v704
  v705.toNat
def k0_off7 (d0 : Dev nD) (c960_i32_569 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c2048_i32_5 : BitVec 32 := 2048#32
  let v10 : BitVec 32 := Scalar.muli v9 c2048_i32_5
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_568 : BitVec 32 := 1024#32
  let v724 : BitVec 32 := Scalar.muli v2 c1024_i32_568
  let v725 : BitVec 32 := Scalar.addi v10 v724
  let v726 : BitVec 32 := Scalar.addi v725 c960_i32_569
  let c0_i32_575 : BitVec 32 := 0#32
  ![v726.toNat, 0]
def k0_dev35 (d0 : Dev nD) : Nat :=
  let c0_i32_573 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_572 : BitVec 32 := 2#32
  let v727 : BitVec 32 := Scalar.muli v7 c2_i32_572
  let v728 : BitVec 32 := Scalar.addi c0_i32_573 v727
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_574 : BitVec 32 := 1#32
  let v729 : BitVec 32 := Scalar.muli v5 c1_i32_574
  let v730 : BitVec 32 := Scalar.addi v728 v729
  v730.toNat
def k0_dev36 (d0 : Dev nD) : Nat :=
  let c0_i32_596 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_595 : BitVec 32 := 2#32
  let v752 : BitVec 32 := Scalar.muli v7 c2_i32_595
  let v753 : BitVec 32 := Scalar.addi c0_i32_596 v752
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_597 : BitVec 32 := 1#32
  let v754 : BitVec 32 := Scalar.muli v5 c1_i32_597
  let v755 : BitVec 32 := Scalar.addi v753 v754
  v755.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Slices.lean ====
/-
# The seventeen slices, and the kernel's body written as four loops over them

The kernel cuts a half block of 1024 rows into fifteen slices of 64 rows and two of 32, and its printed body is the
unrolled text of four passes over these slices. Here the slices get one description each (first row, number of
rows, semaphores), each pass one body at a symbolic slice, and `body_eq` says that the printed body is the passes
run over the list of all slices. Everything proved later is proved once per pass, at a symbolic slice.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.Sem

variable {F : FTy → Type} [FloatOps F]

/-- The index of a slice. -/
abbrev Sl : Type := Fin 17

/-- How many rows slice `s` has: 64, and 32 for the last two. -/
def rows (s : Sl) : ℕ := bif Nat.blt s.val 15 then 64 else 32
/-- The row of the half block at which slice `s` begins. -/
def first (s : Sl) : ℕ := bif Nat.blt s.val 15 then 64 * s.val else 960 + 32 * (s.val - 15)

/-- The shape of slice `s`. -/
abbrev sh (s : Sl) : Shape := ⟨2, ![rows s, 512]⟩

theorem sh_pos (s : Sl) : 0 < (sh s).numel := by revert s; decide
theorem sh_casts (s : Sl) : (sh s).ShapeCasts (sh s) := by revert s; decide

/-- The whole buffers the body works on: its `x` block, its result, the buffer of sent rows, the buffer of received rows. -/
abbrev xM : Memref sig .tc .vmem S2048x512 .bf16 := Memref.whole cc0_stg0_0
abbrev oM : Memref sig .tc .vmem S4096x512 .bf16 := Memref.whole cc0_stg1_0
abbrev cM : Memref sig .tc .vmem S1024x512 .bf16 := Memref.whole cc0_scratch0
abbrev rM : Memref sig .tc .vmem S1024x512 .bf16 := Memref.whole cc0_scratch1

/-- Slice `s` as a rectangle of a half block. -/
theorem half_inb (s : Sl) : ∀ a, (![first s, 0] : Fin 2 → ℕ) a + (sh s).size a ≤ S1024x512.size a := by revert s; decide
abbrev halfRect (s : Sl) : Rect S1024x512 := Rect.unit (s := S1024x512) ![first s, 0] (sh s).size (half_inb s)
theorem half_packed (s : Sl) : (halfRect s).PackedRows (EltTy.packing .bf16) := by revert s; decide +kernel
theorem half_words (s : Sl) : (halfRect s).WholeWords (EltTy.packing .bf16) := by revert s; decide +kernel

/-- Where slice `s` of the half block that device `c` sends begins in its `x` block, as the kernel computes it. -/
def srcOff (c : Dev nD) (s : Sl) : Fin 2 → ℕ := k0_off1 c (BitVec.ofNat 32 (first s))
theorem src_inb (c : Dev nD) (s : Sl) : ∀ a, srcOff c s a + (sh s).size a ≤ S2048x512.size a := by revert c s; decide +kernel
abbrev srcRect (c : Dev nD) (s : Sl) : Rect S2048x512 := Rect.unit (s := S2048x512) (srcOff c s) (sh s).size (src_inb c s)

/-- Where slice `s` of the half block that device `c` receives begins in the result, as the kernel computes it. -/
def dstOff (c : Dev nD) (s : Sl) : Fin 2 → ℕ := k0_off6 c (BitVec.ofNat 32 (first s))
theorem dst_inb (c : Dev nD) (s : Sl) : ∀ a, dstOff c s a + (sh s).size a ≤ S4096x512.size a := by revert c s; decide +kernel
abbrev dstRect (c : Dev nD) (s : Sl) : Rect S4096x512 := Rect.unit (s := S4096x512) (dstOff c s) (sh s).size (dst_inb c s)
theorem dst_words (c : Dev nD) (s : Sl) : (dstRect c s).WholeWords (EltTy.packing .bf16) := by revert c s; decide +kernel

/-- Slice `s` of the two scratch buffers, and of the result at the rows device `c` receives. -/
abbrev cS (s : Sl) : Memref sig .tc .vmem (sh s) .bf16 := cM.slice (halfRect s) (fun _ => rfl)
abbrev rS (s : Sl) : Memref sig .tc .vmem (sh s) .bf16 := rM.slice (halfRect s) (fun _ => rfl)
abbrev oS (c : Dev nD) (s : Sl) : Memref sig .tc .vmem (sh s) .bf16 := oM.slice (dstRect c s) (fun _ => rfl)

/-- The five families of transfer semaphores, one per slice each: 0 sent along `y`, 1 received along `y`, 2 sent
    along `x`, 3 received along `x`, 4 stored into the own result. -/
def sem (k : Fin 5) (s : Sl) : DmaSem sig := ⟨2 + 17 * k.val + s.val, by show _ < 89; omega⟩

/-- The runtime's barrier semaphore. -/
abbrev barS : Sem sig := (SemArray.scalar (sig.barrier 0 rfl) : Sems sig S_).sem

/-- The neighbours along `y` and along `x`, as the kernel computes them. -/
abbrev devY (c : Dev nD) : Dev nD := ⟨k0_dev3 c, k0_dev3_lt c⟩
abbrev devX (c : Dev nD) : Dev nD := ⟨k0_dev20 c, k0_dev20_lt c⟩

/-- A program of the kernel that returns nothing. -/
abbrev Run (F : FTy → Type) : Type 1 := Prog (TpuEff nD τ sig (Elt F) Λ₀ .tc) PUnit

/-- First pass: copy slice `s` of the half block to send into the buffer of sent rows and send it along `y`. -/
def passSend (c : Dev nD) (s : Sl) : Run F := do
  let v : Vec F (sh s) .bf16 ← Prog.lift (.load xM (srcRect c s).toLoadRect (View.loadsAt_vmem (sh_pos s)))
  let _w : Vec F (sh s) .bf16 ← Prog.lift (.load cM (halfRect s).toLoadRect (View.loadsAt_vmem (sh_pos s)))
  Prog.lift (.store cM (halfRect s) (shapeCast (sh s) (shapeCast (sh s) v (sh_casts s)) (sh_casts s)) Finset.univ
    (View.stores_vmem (sh_pos s) ((Memref.isWhole_whole _).storeExact_slice rfl _ (half_packed s)) (fun _ => rfl)) (.inl rfl))
  Prog.lift (.enqueueDma (cS s) (.remote (Dev.tc (devY c)) (rS s) (.dma (sem 0 s))) (.dma (sem 1 s))
    ((Memref.isWhole_whole _).wordExact_slice rfl _ (half_words s)) ((Memref.isWhole_whole _).wordExact_slice rfl _ (half_words s))
    ⟨⟨rfl, Or.inl rfl⟩, trivial⟩)

/-- Second pass: await slice `s` from along `y`, send it on along `x`, and copy it into the own result. -/
def passForward (c : Dev nD) (s : Sl) : Run F := do
  Prog.lift (.waitDma2 (sem 1 s) (cS s) (rS s)
    ((Memref.isWhole_whole _).wordExact_slice rfl _ (half_words s)) ((Memref.isWhole_whole _).wordExact_slice rfl _ (half_words s)))
  Prog.lift (.enqueueDma (rS s) (.remote (Dev.tc (devX c)) (oS c s) (.dma (sem 2 s))) (.dma (sem 3 s))
    ((Memref.isWhole_whole _).wordExact_slice rfl _ (half_words s)) ((Memref.isWhole_whole _).wordExact_slice rfl _ (dst_words c s))
    ⟨⟨rfl, Or.inl rfl⟩, trivial⟩)
  Prog.lift (.enqueueDma (rS s) (.here (oS c s)) (.dma (sem 4 s))
    ((Memref.isWhole_whole _).wordExact_slice rfl _ (half_words s)) ((Memref.isWhole_whole _).wordExact_slice rfl _ (dst_words c s))
    ⟨Or.inl rfl, trivial⟩)

/-- Third pass: await slice `s` from along `x`. -/
def passArrive (c : Dev nD) (s : Sl) : Run F :=
  Prog.lift (.waitDma2 (sem 3 s) (rS s) (oS c s)
    ((Memref.isWhole_whole _).wordExact_slice rfl _ (half_words s)) ((Memref.isWhole_whole _).wordExact_slice rfl _ (dst_words c s)))

/-- Fourth pass: await the completion of the own transfers of slice `s`. -/
def passDrain (c : Dev nD) (s : Sl) : Run F := do
  Prog.lift (.waitDma2 (sem 0 s) (rS s) (cS s)
    ((Memref.isWhole_whole _).wordExact_slice rfl _ (half_words s)) ((Memref.isWhole_whole _).wordExact_slice rfl _ (half_words s)))
  Prog.lift (.waitDma2 (sem 2 s) (oS c s) (rS s)
    ((Memref.isWhole_whole _).wordExact_slice rfl _ (dst_words c s)) ((Memref.isWhole_whole _).wordExact_slice rfl _ (half_words s)))
  Prog.lift (.waitDma2 (sem 4 s) (rS s) (oS c s)
    ((Memref.isWhole_whole _).wordExact_slice rfl _ (half_words s)) ((Memref.isWhole_whole _).wordExact_slice rfl _ (dst_words c s)))

/-- The two stores of the own block into the result, between the first and the second pass. -/
def ownStores (c : Dev nD) : Run F := do
  let v : Vec F S1024x512 .bf16 ← Prog.lift (.load cM (Rect.unit (s := S1024x512) ![0, 0] S1024x512.size inb_S1024x512_S1024x512_0_0).toLoadRect (View.loadsAt_vmem h_S1024x512))
  let _w : Vec F S1024x512 .bf16 ← Prog.lift (.load oM (Rect.unit (s := S4096x512) (k0_off3 c) S1024x512.size (k0_off3_inb c)).toLoadRect (View.loadsAt_vmem h_S1024x512))
  Prog.lift (.store oM (Rect.unit (s := S4096x512) (k0_off3 c) S1024x512.size (k0_off3_inb c)) v Finset.univ
    (View.stores_vmem h_S1024x512 ((Memref.isWhole_whole _).storeExact_slice rfl _ (k0_off3_packedbf16 c)) (fun _ => rfl)) (.inl rfl))
  let u : Vec F S1024x512 .bf16 ← Prog.lift (.load xM (Rect.unit (s := S2048x512) (k0_off4 c) S1024x512.size (k0_off4_inb c)).toLoadRect (View.loadsAt_vmem h_S1024x512))
  let _w : Vec F S1024x512 .bf16 ← Prog.lift (.load oM (Rect.unit (s := S4096x512) (k0_off5 c) S1024x512.size (k0_off5_inb c)).toLoadRect (View.loadsAt_vmem h_S1024x512))
  Prog.lift (.store oM (Rect.unit (s := S4096x512) (k0_off5 c) S1024x512.size (k0_off5_inb c)) (k0_pay20 u) Finset.univ
    (View.stores_vmem h_S1024x512 ((Memref.isWhole_whole _).storeExact_slice rfl _ (k0_off5_packedbf16 c)) (fun _ => rfl)) (.inl rfl))

/-- Run `f` over a list of slices, then `k`. -/
def over (f : Sl → Run F) : List Sl → Run F → Run F
  | [], k => k
  | s :: l, k => f s >>= fun _ => over f l k

/-- All slices in order. -/
def slices : List Sl := [0, 1, 2, 3, 4, 5, 6, 7, 8, 9, 10, 11, 12, 13, 14, 15, 16]

/-- The body as a handshake on the barrier semaphore, the first pass, the own stores, and the other three passes. -/
def passes : Run F := do
  let c : Dev nD ← Prog.lift .deviceId
  semSignalWord (⟨k0_dev1 c, k0_dev1_lt c⟩ : Dev nD) barS 1#32
  semSignalWord (⟨k0_dev2 c, k0_dev2_lt c⟩ : Dev nD) barS 1#32
  semWaitWord barS 2#32
  over (passSend c) slices do
    ownStores c
    over (passForward c) slices (over (passArrive c) slices (over (passDrain c) slices (pure ⟨⟩)))

set_option maxRecDepth 65536 in
/-- The printed body is these passes. -/
theorem body_eq :
    cc0_body (F := F) xM (Memref.isWhole_whole _) oM (Memref.isWhole_whole _) cM (Memref.isWhole_whole _) rM (Memref.isWhole_whole _)
      cc0_scratch2 cc0_scratch3 cc0_scratch4 cc0_scratch5 cc0_scratch6 cc0_scratch7 = passes := rfl

end Cert.Gather

end
-- ==== Proof.Contents.lean ====
/-
# What the buffers hold, and how they are cut into slices

The device at mesh position (`x`, `y`) has number 2·x + y and the rows of the argument that belong to `y`; it sends the
half of them that belongs to `x`. `sent`, `recvd` and `res` are the contents, as functions of the whole buffer, that
the buffer of sent rows, the buffer of received rows and the result have once every transfer is through. Each
transfer then only has to agree with these on its slice: the equations `read_…` below.
-/
module

public import proofs.«01_k».proof.Proof.Slices
public import Idealize.ShloMosaic.Lib.Pipeline.Value

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The transfer protocol's ghost state (duties named by Booleans) beside the pipeline library's. -/
abbrev UG : Type := URounds (GSem nD τ sig) Bool
abbrev UU : Type := UR sig nD τ × UG

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Devices -/

theorem devY_val (c : Dev nD) : (devY c).val = (2 * (c.val / 2) + 1) - c.val % 2 := k0_dev3_eq c
theorem devX_val (c : Dev nD) : (devX c).val = (c.val % 2 + 2) - 2 * (c.val / 2) := k0_dev20_eq c
theorem dev_lt (c : Dev nD) : c.val < 4 := c.isLt
theorem devX_mod (c : Dev nD) : (devX c).val % 2 = c.val % 2 := by
  have hc := dev_lt c
  rw [devX_val]; omega
theorem devX_div (c : Dev nD) : (devX c).val / 2 = 1 - c.val / 2 := by
  have hc := dev_lt c
  rw [devX_val]; omega
/-- Going twice along an axis of two devices comes back. -/
theorem devY_devY (c : Dev nD) : devY (devY c) = c := by
  have := dev_lt c; exact Fin.ext (by rw [devY_val, devY_val]; omega)
theorem devX_devX (c : Dev nD) : devX (devX c) = c := by
  have := dev_lt c; exact Fin.ext (by rw [devX_val, devX_val]; omega)
/-- The kernel's two signals address the same neighbours as its transfers. -/
theorem dev1_eq (c : Dev nD) : (⟨k0_dev1 c, k0_dev1_lt c⟩ : Dev nD) = devY c := Fin.ext ((k0_dev1_eq c).trans (k0_dev3_eq c).symm)
theorem dev2_eq (c : Dev nD) : (⟨k0_dev2 c, k0_dev2_lt c⟩ : Dev nD) = devX c := Fin.ext ((k0_dev2_eq c).trans (k0_dev20_eq c).symm)
/-- The neighbours along an axis, as a permutation of the devices. -/
def permY : Dev nD ≃ Dev nD := ⟨devY, devY, devY_devY, devY_devY⟩
def permX : Dev nD ≃ Dev nD := ⟨devX, devX, devX_devX, devX_devX⟩

/-! ## Offsets -/

theorem srcOff_eq (c : Dev nD) (s : Sl) : srcOff c s = ![1024 * (c.val / 2) + first s, 0] := by revert c s; decide +kernel
theorem dstOff_eq (c : Dev nD) (s : Sl) : dstOff c s = ![2048 * (1 - c.val % 2) + 1024 * (c.val / 2) + first s, 0] := by
  revert c s; decide +kernel
theorem first_le (s : Sl) : first s + rows s ≤ 1024 := by revert s; decide
/-- Different slices have no row in common. -/
theorem first_apart (s t : Sl) (h : s ≠ t) : first s + rows s ≤ first t ∨ first t + rows t ≤ first s := by revert s t; decide
/-- Every row of the half block lies in a slice. -/
theorem first_cover (r : ℕ) (h : r < 1024) : ∃ s : Sl, first s ≤ r ∧ r < first s + rows s := by
  by_cases h' : r < 960
  · refine ⟨⟨r / 64, by omega⟩, ?_⟩
    have : Nat.blt (r / 64) 15 = true := Nat.blt_eq.mpr (by omega)
    simp only [first, rows, this, cond_true]; omega
  · refine ⟨⟨15 + (r - 960) / 32, by omega⟩, ?_⟩
    have : Nat.blt (15 + (r - 960) / 32) 15 = false := by
      rw [Bool.eq_false_iff]; intro hh; rw [Nat.blt_eq] at hh; omega
    simp only [first, rows, this, cond_false]; omega

/-! ## Contents -/

/-- The block of the argument that device `c` has at launch. -/
def xstg (c : Dev nD) : (cc0_stg0_0 : Ref sig .tc).ty.Contents (Elt F) :=
  (win0_0.blk (0 : Fin 1)).view.read (Elt F) ((s₀ m ρ).mem ((c : Thread nD τ).loc main_arg0))

/-- The element at row `r` and column `j` of that block, for any two numbers. -/
def xval (c : Dev nD) (r j : ℕ) : Elt F .bf16 :=
  xstg m ρ c (fun a => match a with
    | ⟨0, _⟩ => ⟨r % 2048, Nat.mod_lt _ (by decide)⟩
    | ⟨1, _⟩ => ⟨j % 512, Nat.mod_lt _ (by decide)⟩ : S2048x512.Idx)

omit [FloatOps F] in
theorem xstg_eq (c : Dev nD) (i : S2048x512.Idx) : xstg m ρ c i = xval m ρ c (i 0).val (i 1).val := by
  unfold xval; congr 1; funext a
  have h0 : (i 0).val < 2048 := (i 0).isLt
  have h1 : (i 1).val < 512 := (i 1).isLt
  apply Fin.ext
  match a with
  | ⟨0, _⟩ => exact (Nat.mod_eq_of_lt h0).symm
  | ⟨1, _⟩ => exact (Nat.mod_eq_of_lt h1).symm

/-- The buffer of sent rows of device `c`: the half of its block that belongs to its `x`. -/
def sent (c : Dev nD) : (cc0_scratch0 : Ref sig .tc).ty.Contents (Elt F) :=
  fun (i : S1024x512.Idx) => xval m ρ c (1024 * (c.val / 2) + (i 0).val) (i 1).val

/-- The buffer of received rows of device `c`: what its neighbour along `y` sent. -/
def recvd (c : Dev nD) : (cc0_scratch1 : Ref sig .tc).ty.Contents (Elt F) :=
  fun (i : S1024x512.Idx) => xval m ρ (devY c) (1024 * (c.val / 2) + (i 0).val) (i 1).val

/-- From which device the result of device `c` has half `h` of the block that belongs to `b` along `y`. -/
def srcDev (c : Dev nD) (b h : ℕ) : Dev nD := if b = c.val % 2 then c else ⟨(2 * h + b) % 4, Nat.mod_lt _ (by decide)⟩

/-- The result of device `c`. -/
def res (c : Dev nD) : (cc0_stg1_0 : Ref sig .tc).ty.Contents (Elt F) :=
  fun (i : S4096x512.Idx) => xval m ρ (srcDev c ((i 0).val / 2048) ((i 0).val % 2048 / 1024)) ((i 0).val % 2048) (i 1).val

theorem srcDev_own (c : Dev nD) (h : ℕ) : srcDev c (c.val % 2) h = c := if_pos rfl
/-- The rows a device receives along `y` are sent by that neighbour, -/
theorem srcDev_recv (c : Dev nD) : srcDev c (1 - c.val % 2) (c.val / 2) = devY c := by
  have := dev_lt c; unfold srcDev; rw [if_neg (by omega)]; exact Fin.ext (by rw [devY_val]; show (_ % 4 : ℕ) = _; omega)
/-- and so are the ones its neighbour along `x` receives and sends on. -/
theorem srcDev_forward (c : Dev nD) : srcDev (devX c) (1 - c.val % 2) (c.val / 2) = devY c := by
  have := dev_lt c; have := devX_val c
  unfold srcDev; rw [if_neg (by omega)]; exact Fin.ext (by rw [devY_val]; show (_ % 4 : ℕ) = _; omega)

/-! ## What each access reads -/

omit [FloatOps F] in
theorem xval_congr {c c' : Dev nD} {r r' j j' : ℕ} (hc : c = c') (hr : r = r') (hj : j = j') : xval m ρ c r j = xval m ρ c' r' j' := by
  rw [hc, hr, hj]

omit [FloatOps F] in
/-- Slice `s` of the block, as the first pass loads it, is slice `s` of the rows to send. -/
theorem read_src (c : Dev nD) (s : Sl) :
    (xM.access (srcRect c s)).read (Elt F) (xstg m ρ c) = (cS s).view.read (Elt F) (sent m ρ c) := by
  funext i
  refine (xstg_eq m ρ c _).trans (xval_congr m ρ rfl ?_ ?_)
  · show srcOff c s 0 + 1 * (i 0).val = 1024 * (c.val / 2) + (first s + 1 * (i 0).val)
    rw [srcOff_eq]; show 1024 * (c.val / 2) + first s + 1 * (i 0).val = _; omega
  · show srcOff c s 1 + 1 * (i 1).val = 0 + 1 * (i 1).val
    rw [srcOff_eq]; rfl

omit [FloatOps F] in
/-- What a device sends along `y` is what that neighbour receives. -/
theorem read_sent (c : Dev nD) (s : Sl) :
    (rS s).view.read (Elt F) (recvd m ρ (devY c)) = (cS s).view.read (Elt F) (sent m ρ c) := by
  funext i
  have := dev_lt c
  refine xval_congr m ρ (devY_devY c) ?_ rfl
  show 1024 * ((devY c).val / 2) + _ = 1024 * (c.val / 2) + _
  rw [devY_val, show ((2 * (c.val / 2) + 1) - c.val % 2) / 2 = c.val / 2 by omega]; rfl

omit [FloatOps F] in
/-- What a device receives along `y` belongs at these rows of its result, -/
theorem read_store (c : Dev nD) (s : Sl) :
    (oS c s).view.read (Elt F) (res m ρ c) = (rS s).view.read (Elt F) (recvd m ρ c) := by
  funext i
  have hc := dev_lt c
  have hs := first_le s
  have hi : (i 0).val < rows s := (i 0).isLt
  have h0 : dstOff c s 0 = 2048 * (1 - c.val % 2) + 1024 * (c.val / 2) + first s := by rw [dstOff_eq]; rfl
  have h1 : dstOff c s 1 = 0 := by rw [dstOff_eq]; rfl
  show xval m ρ (srcDev c ((dstOff c s 0 + 1 * (i 0).val) / 2048) ((dstOff c s 0 + 1 * (i 0).val) % 2048 / 1024))
      ((dstOff c s 0 + 1 * (i 0).val) % 2048) (dstOff c s 1 + 1 * (i 1).val)
    = xval m ρ (devY c) (1024 * (c.val / 2) + (first s + 1 * (i 0).val)) (0 + 1 * (i 1).val)
  rw [h0, h1]
  refine xval_congr m ρ ?_ (by omega) rfl
  rw [← srcDev_recv c]
  congr 1 <;> omega

omit [FloatOps F] in
/-- and at the same rows of its `x` neighbour's. -/
theorem read_forward (c : Dev nD) (s : Sl) :
    (oS c s).view.read (Elt F) (res m ρ (devX c)) = (rS s).view.read (Elt F) (recvd m ρ c) := by
  funext i
  have hc := dev_lt c
  have hs := first_le s
  have hi : (i 0).val < rows s := (i 0).isLt
  have h0 : dstOff c s 0 = 2048 * (1 - c.val % 2) + 1024 * (c.val / 2) + first s := by rw [dstOff_eq]; rfl
  have h1 : dstOff c s 1 = 0 := by rw [dstOff_eq]; rfl
  show xval m ρ (srcDev (devX c) ((dstOff c s 0 + 1 * (i 0).val) / 2048) ((dstOff c s 0 + 1 * (i 0).val) % 2048 / 1024))
      ((dstOff c s 0 + 1 * (i 0).val) % 2048) (dstOff c s 1 + 1 * (i 1).val)
    = xval m ρ (devY c) (1024 * (c.val / 2) + (first s + 1 * (i 0).val)) (0 + 1 * (i 1).val)
  rw [h0, h1]
  refine xval_congr m ρ ?_ (by omega) rfl
  rw [← srcDev_forward c]
  congr 1 <;> omega

/-- The rows of the own block in the result: the half that is sent, the half that is not. -/
abbrev ownRect (c : Dev nD) : Rect S4096x512 := Rect.unit (s := S4096x512) (k0_off3 c) S1024x512.size (k0_off3_inb c)
abbrev restRect (c : Dev nD) : Rect S4096x512 := Rect.unit (s := S4096x512) (k0_off5 c) S1024x512.size (k0_off5_inb c)
/-- The half of the `x` block that is not sent. -/
abbrev keptRect (c : Dev nD) : Rect S2048x512 := Rect.unit (s := S2048x512) (k0_off4 c) S1024x512.size (k0_off4_inb c)
/-- The whole buffer of sent rows. -/
abbrev wholeRect : Rect S1024x512 := Rect.unit (s := S1024x512) ![0, 0] S1024x512.size inb_S1024x512_S1024x512_0_0

omit [FloatOps F] in
/-- The first own store writes the sent rows where the result has them. -/
theorem read_own (c : Dev nD) :
    (oM.access (ownRect c)).read (Elt F) (res m ρ c) = (cM.access wholeRect).read (Elt F) (sent m ρ c) := by
  funext i
  have hc := dev_lt c
  have hi : (i 0).val < 1024 := (i 0).isLt
  have h0 : k0_off3 c 0 = 2048 * (c.val % 2) + 1024 * (c.val / 2) := by rw [k0_off3_eq]; rfl
  have h1 : k0_off3 c 1 = 0 := by rw [k0_off3_eq]; rfl
  show xval m ρ (srcDev c ((k0_off3 c 0 + 1 * (i 0).val) / 2048) ((k0_off3 c 0 + 1 * (i 0).val) % 2048 / 1024))
      ((k0_off3 c 0 + 1 * (i 0).val) % 2048) (k0_off3 c 1 + 1 * (i 1).val)
    = xval m ρ c (1024 * (c.val / 2) + (0 + 1 * (i 0).val)) (0 + 1 * (i 1).val)
  rw [h0, h1]
  refine xval_congr m ρ ?_ (by omega) rfl
  rw [show (2048 * (c.val % 2) + 1024 * (c.val / 2) + 1 * (i 0).val) / 2048 = c.val % 2 by omega]
  exact srcDev_own c _

omit [FloatOps F] in
/-- The second own store writes the other half of the block where the result has it. -/
theorem read_rest (c : Dev nD) :
    (oM.access (restRect c)).read (Elt F) (res m ρ c) = (xM.access (keptRect c)).read (Elt F) (xstg m ρ c) := by
  funext i
  have hc := dev_lt c
  have hi : (i 0).val < 1024 := (i 0).isLt
  have h0 : k0_off5 c 0 = (2048 * (c.val % 2) + 1024) - 1024 * (c.val / 2) := by rw [k0_off5_eq]; rfl
  have h1 : k0_off5 c 1 = 0 := by rw [k0_off5_eq]; rfl
  have h2 : k0_off4 c 0 = 1024 - 1024 * (c.val / 2) := by rw [k0_off4_eq]; rfl
  have h3 : k0_off4 c 1 = 0 := by rw [k0_off4_eq]; rfl
  refine Eq.trans ?_ (xstg_eq m ρ c _).symm
  show xval m ρ (srcDev c ((k0_off5 c 0 + 1 * (i 0).val) / 2048) ((k0_off5 c 0 + 1 * (i 0).val) % 2048 / 1024))
      ((k0_off5 c 0 + 1 * (i 0).val) % 2048) (k0_off5 c 1 + 1 * (i 1).val)
    = xval m ρ c (k0_off4 c 0 + 1 * (i 0).val) (k0_off4 c 1 + 1 * (i 1).val)
  rw [h0, h1, h2, h3]
  refine xval_congr m ρ ?_ (by omega) rfl
  rw [show ((2048 * (c.val % 2) + 1024) - 1024 * (c.val / 2) + 1 * (i 0).val) / 2048 = c.val % 2 by omega]
  exact srcDev_own c _

/-! ## Writing a slice -/

omit [FloatOps F] in
/-- A buffer written through a view agrees, on the view's elements, with any contents that read there as what was written. -/
theorem pts_write {sp : Space} {s : Shape} {e : EltTy} (c : Dev nD) (v : View sig .tc sp s e) (q : PosShare TreeShare)
    (f g : Buf (Elt F) (v.loc (c : Thread nD τ))) (w : s.Idx → Elt F e) (h : v.read (Elt F) g = w) :
    (v.loc (c : Thread nD τ) ↦[v.set]{q} v.write (Elt F) f w Finset.univ : sProp 𝕄) = (v.loc (c : Thread nD τ) ↦[v.set]{q} g) := by
  refine pointsTo_congr fun i hi => ?_
  obtain ⟨x, rfl⟩ := View.exists_emb_of_mem_set v hi
  rw [View.write_emb_of_mem f w (Finset.mem_univ x), ← h, View.read_apply, cast_cast, cast_eq]

/-! ## Cutting the buffers -/

/-- A rectangle of full rows holds the indices whose row lies in its range. -/
theorem mem_rows {n k : ℕ} {off : Fin 2 → ℕ} {inb : ∀ a, off a + (![k, 512] : Fin 2 → ℕ) a ≤ (⟨2, ![n, 512]⟩ : Shape).size a} {b : ℕ}
    (h : off = ![b, 0]) (i : (⟨2, ![n, 512]⟩ : Shape).Idx) :
    i ∈ (Rect.unit (s := (⟨2, ![n, 512]⟩ : Shape)) off ![k, 512] inb).set ↔ b ≤ (i 0).val ∧ (i 0).val < b + k := by
  subst h
  rw [Rect.mem_set_unit]
  have h1 : (i 1).val < 512 := (i 1).isLt
  constructor
  · intro hh; exact hh 0
  · intro hh a
    match a with
    | ⟨0, _⟩ => exact hh
    | ⟨1, _⟩ => exact ⟨Nat.zero_le _, by show (i 1).val < 0 + 512; omega⟩

theorem mem_half (s : Sl) (i : S1024x512.Idx) : i ∈ (halfRect s).set ↔ first s ≤ (i 0).val ∧ (i 0).val < first s + rows s :=
  mem_rows rfl i
theorem mem_dst (c : Dev nD) (s : Sl) (i : S4096x512.Idx) :
    i ∈ (dstRect c s).set ↔ 2048 * (1 - c.val % 2) + 1024 * (c.val / 2) + first s ≤ (i 0).val
      ∧ (i 0).val < 2048 * (1 - c.val % 2) + 1024 * (c.val / 2) + first s + rows s :=
  mem_rows (dstOff_eq c s) i
theorem mem_own (c : Dev nD) (i : S4096x512.Idx) :
    i ∈ (ownRect c).set ↔ 2048 * (c.val % 2) + 1024 * (c.val / 2) ≤ (i 0).val ∧ (i 0).val < 2048 * (c.val % 2) + 1024 * (c.val / 2) + 1024 :=
  mem_rows (k0_off3_eq c) i
theorem mem_rest (c : Dev nD) (i : S4096x512.Idx) :
    i ∈ (restRect c).set ↔ (2048 * (c.val % 2) + 1024) - 1024 * (c.val / 2) ≤ (i 0).val
      ∧ (i 0).val < (2048 * (c.val % 2) + 1024) - 1024 * (c.val / 2) + 1024 :=
  mem_rows (k0_off5_eq c) i

theorem half_apart (s t : Sl) (h : s ≠ t) : Disjoint (halfRect s).set (halfRect t).set :=
  Finset.disjoint_left.mpr fun i hi hj => by
    rw [mem_half] at hi hj; rcases first_apart s t h with h' | h' <;> omega
theorem half_cover (i : S1024x512.Idx) : ∃ s : Sl, i ∈ (halfRect s).set := by
  obtain ⟨s, hs⟩ := first_cover (i 0).val (i 0).isLt
  exact ⟨s, (mem_half s i).mpr hs⟩

/-- The rows of the result that device `c` receives along `y`. -/
theorem dstRows_inb (c : Dev nD) :
    ∀ a, (![2048 * (1 - c.val % 2) + 1024 * (c.val / 2), 0] : Fin 2 → ℕ) a + (![1024, 512] : Fin 2 → ℕ) a ≤ S4096x512.size a := by
  revert c; decide
def dstRows (c : Dev nD) : Finset S4096x512.Idx :=
  (Rect.unit (s := S4096x512) ![2048 * (1 - c.val % 2) + 1024 * (c.val / 2), 0] ![1024, 512] (dstRows_inb c)).set
theorem dst_apart (c : Dev nD) (s t : Sl) (h : s ≠ t) : Disjoint (dstRect c s).set (dstRect c t).set :=
  Finset.disjoint_left.mpr fun i hi hj => by
    rw [mem_dst] at hi hj; rcases first_apart s t h with h' | h' <;> omega
theorem mem_dstRows (c : Dev nD) (i : S4096x512.Idx) :
    i ∈ dstRows c ↔ 2048 * (1 - c.val % 2) + 1024 * (c.val / 2) ≤ (i 0).val
      ∧ (i 0).val < 2048 * (1 - c.val % 2) + 1024 * (c.val / 2) + 1024 :=
  mem_rows rfl i
/-- They are the slices there. -/
theorem mem_dstRows_iff (c : Dev nD) (i : S4096x512.Idx) : i ∈ dstRows c ↔ ∃ s : Sl, i ∈ (dstRect c s).set := by
  rw [mem_dstRows]
  constructor
  · intro h
    obtain ⟨s, hs⟩ := first_cover ((i 0).val - (2048 * (1 - c.val % 2) + 1024 * (c.val / 2))) (by omega)
    exact ⟨s, (mem_dst c s i).mpr (by omega)⟩
  · rintro ⟨s, hs⟩
    rw [mem_dst] at hs; have := first_le s; omega

/-- The four kinds of rows make up the result. -/
theorem out_cover (c : Dev nD) (i : S4096x512.Idx) :
    i ∈ (ownRect c).set ∨ i ∈ (restRect c).set ∨ i ∈ dstRows c ∨ i ∈ dstRows (devX c) := by
  have hi : (i 0).val < 4096 := (i 0).isLt
  have hc := dev_lt c
  rw [mem_own, mem_rest, mem_dstRows, mem_dstRows, devX_mod, devX_div]
  omega
/-- No two of them have a row in common. -/
theorem own_rest (c : Dev nD) (i : S4096x512.Idx) : i ∈ (ownRect c).set → i ∉ (restRect c).set := by
  have hc := dev_lt c
  rw [mem_own, mem_rest]
  omega
theorem block_apart (c d : Dev nD) (h : d.val % 2 = c.val % 2) (i : S4096x512.Idx) :
    i ∈ (ownRect c).set ∨ i ∈ (restRect c).set → i ∉ dstRows d := by
  have hc := dev_lt c
  have hd := dev_lt d
  rw [mem_own, mem_rest, mem_dstRows, h]
  omega
theorem dstRows_apart (c : Dev nD) (i : S4096x512.Idx) : i ∈ dstRows c → i ∉ dstRows (devX c) := by
  have hc := dev_lt c
  rw [mem_dstRows, mem_dstRows, devX_mod, devX_div]
  omega

/-! ## Points-to facts about slices -/

/-- Device `c` holds slice `s` of the buffer of sent rows, of the buffer of received rows, and, of its result, at the
    rows device `d` receives, with these contents. -/
def cPts (c : Dev nD) (s : Sl) (q : PosShare TreeShare) (f : (cc0_scratch0 : Ref sig .tc).ty.Contents (Elt F)) : sProp 𝕄 :=
  (cS s).view.loc (c : Thread nD τ) ↦[(cS s).view.set]{q} f
def rPts (c : Dev nD) (s : Sl) (q : PosShare TreeShare) (f : (cc0_scratch1 : Ref sig .tc).ty.Contents (Elt F)) : sProp 𝕄 :=
  (rS s).view.loc (c : Thread nD τ) ↦[(rS s).view.set]{q} f
def oPts (c d : Dev nD) (s : Sl) (f : (cc0_stg1_0 : Ref sig .tc).ty.Contents (Elt F)) : sProp 𝕄 :=
  (oS d s).view.loc (c : Thread nD τ) ↦[(oS d s).view.set]{fullShare} f
/-- Device `c` holds the two halves of its own block in the result. -/
def ownPts (c : Dev nD) (f : (cc0_stg1_0 : Ref sig .tc).ty.Contents (Elt F)) : sProp 𝕄 :=
  (oM.access (ownRect c)).loc (c : Thread nD τ) ↦[(oM.access (ownRect c)).set]{fullShare} f
def restPts (c : Dev nD) (f : (cc0_stg1_0 : Ref sig .tc).ty.Contents (Elt F)) : sProp 𝕄 :=
  (oM.access (restRect c)).loc (c : Thread nD τ) ↦[(oM.access (restRect c)).set]{fullShare} f

section Storables
variable (c d : Dev nD) (s : Sl) (q : PosShare TreeShare)
omit [FloatOps F] in
instance cPts_storable (f) : BI.Storable (upEmb : UEmb _ 𝕄) (cPts (F := F) c s q f) := by unfold cPts; infer_instance
omit [FloatOps F] in
instance rPts_storable (f) : BI.Storable (upEmb : UEmb _ 𝕄) (rPts (F := F) c s q f) := by unfold rPts; infer_instance
omit [FloatOps F] in
instance oPts_storable (f) : BI.Storable (upEmb : UEmb _ 𝕄) (oPts (F := F) c d s f) := by unfold oPts; infer_instance
end Storables

omit [FloatOps F] in
/-- A family of pairwise disjoint sets that has exactly the members of `S` cuts a buffer held on `S`. -/
theorem pts_cut {ℓ : Loc nD τ sig} (S : Finset (Idx ℓ)) (K : Sl → Finset (Idx ℓ)) (hK : ∀ i, i ∈ S ↔ ∃ s, i ∈ K s)
    (hd : ∀ s t, s ≠ t → Disjoint (K s) (K t)) (q : PosShare TreeShare) (f : Buf (Elt F) ℓ) :
    (ℓ ↦[S]{q} f : sProp 𝕄) = bigSep Finset.univ fun s : Sl => ℓ ↦[K s]{q} f := by
  rw [← pointsTo_biUnion Finset.univ K fun s _ t _ h => hd s t h]
  congr 1
  ext i
  rw [hK, Finset.mem_biUnion]
  exact exists_congr fun s => (and_iff_right (Finset.mem_univ s)).symm

omit [FloatOps F] in
/-- Two disjoint sets that have exactly the members of `S` cut a buffer held on `S`. -/
theorem pts_two {ℓ : Loc nD τ sig} (S I J : Finset (Idx ℓ)) (hS : ∀ i, i ∈ S ↔ i ∈ I ∨ i ∈ J) (hd : ∀ i, i ∈ I → i ∉ J)
    (q : PosShare TreeShare) (f : Buf (Elt F) ℓ) :
    (ℓ ↦[S]{q} f : sProp 𝕄) = iprop((ℓ ↦[I]{q} f) ∗ ℓ ↦[J]{q} f) := by
  have hu : (ℓ ↦[I ∪ J]{q} f : sProp 𝕄) ⊣⊢ iprop((ℓ ↦[I]{q} f) ∗ ℓ ↦[J]{q} f) :=
    pointsTo_union (Finset.disjoint_left.mpr fun i h h' => hd i h h')
  rw [← BI.equiv_iff.mp ⟨hu.1, hu.2⟩]
  congr 1
  ext i
  rw [hS, Finset.mem_union]

omit [FloatOps F] in
/-- A buffer of half a block is its slices. -/
theorem cPts_cut (c : Dev nD) (q : PosShare TreeShare) (f : Buf (Elt F) ((c : Thread nD τ).loc cc0_scratch0)) :
    (((c : Thread nD τ).loc cc0_scratch0) ↦{q} f : sProp 𝕄) = bigSep Finset.univ fun s : Sl => cPts c s q f := by
  unfold cPts
  simp only [View.set_slice_whole]
  exact pts_cut (ℓ := (c : Thread nD τ).loc cc0_scratch0) Finset.univ (fun s => (halfRect s).set)
    (fun i => ⟨fun _ => half_cover i, fun _ => Finset.mem_univ i⟩) half_apart q f
omit [FloatOps F] in
theorem rPts_cut (c : Dev nD) (q : PosShare TreeShare) (f : Buf (Elt F) ((c : Thread nD τ).loc cc0_scratch1)) :
    (((c : Thread nD τ).loc cc0_scratch1) ↦{q} f : sProp 𝕄) = bigSep Finset.univ fun s : Sl => rPts c s q f := by
  unfold rPts
  simp only [View.set_slice_whole]
  exact pts_cut (ℓ := (c : Thread nD τ).loc cc0_scratch1) Finset.univ (fun s => (halfRect s).set)
    (fun i => ⟨fun _ => half_cover i, fun _ => Finset.mem_univ i⟩) half_apart q f

omit [FloatOps F] in
/-- The rows of a result that device `d` receives are its slices. -/
theorem dstRows_cut (c d : Dev nD) (f : Buf (Elt F) ((c : Thread nD τ).loc cc0_stg1_0)) :
    (((c : Thread nD τ).loc cc0_stg1_0) ↦[dstRows d]{fullShare} f : sProp 𝕄) = bigSep Finset.univ fun s : Sl => oPts c d s f := by
  unfold oPts
  simp only [View.set_slice_whole]
  exact pts_cut (ℓ := (c : Thread nD τ).loc cc0_stg1_0) (dstRows d) (fun s => (dstRect d s).set)
    (mem_dstRows_iff d) (dst_apart d) fullShare f

omit [FloatOps F] in
/-- The result is the two halves of the own block, the slices received along `y` and those received along `x`. -/
theorem out_cut (c : Dev nD) (f : Buf (Elt F) ((c : Thread nD τ).loc cc0_stg1_0)) :
    (((c : Thread nD τ).loc cc0_stg1_0) ↦{fullShare} f : sProp 𝕄)
      = iprop((ownPts c f ∗ restPts c f) ∗ (bigSep Finset.univ fun s : Sl => oPts c c s f) ∗ bigSep Finset.univ fun s : Sl => oPts c (devX c) s f) := by
  classical
  rw [← dstRows_cut, ← dstRows_cut]
  unfold ownPts restPts
  rw [View.set_slice_whole, View.set_slice_whole]
  rw [pts_two (ℓ := (c : Thread nD τ).loc cc0_stg1_0) Finset.univ ((ownRect c).set ∪ (restRect c).set) (dstRows c ∪ dstRows (devX c))
      (fun i => by
        rw [Finset.mem_union, Finset.mem_union, or_assoc]
        exact ⟨fun _ => out_cover c i, fun _ => Finset.mem_univ i⟩)
      (fun i h => by
        rw [Finset.mem_union] at h ⊢
        exact not_or.mpr ⟨block_apart c c rfl i h, block_apart c (devX c) (devX_mod c) i h⟩),
    pts_two (ℓ := (c : Thread nD τ).loc cc0_stg1_0) ((ownRect c).set ∪ (restRect c).set) (ownRect c).set (restRect c).set
      (fun i => Finset.mem_union) (own_rest c),
    pts_two (ℓ := (c : Thread nD τ).loc cc0_stg1_0) (dstRows c ∪ dstRows (devX c)) (dstRows c) (dstRows (devX c))
      (fun i => Finset.mem_union) (dstRows_apart c)]

omit [FloatOps F] in
/-- Elements at the full share are the elements at both halves of the share. -/
theorem pts_halves {ℓ : Loc nD τ sig} (S : Finset (Idx ℓ)) (f : Buf (Elt F) ℓ) :
    (ℓ ↦[S]{fullShare} f : sProp 𝕄) = iprop((ℓ ↦[S]{fullShare.left} f) ∗ ℓ ↦[S]{fullShare.right} f) := by
  have h : (ℓ ↦[S]{fullShare} f : sProp 𝕄) ⊣⊢ iprop((ℓ ↦[S]{fullShare.left} f) ∗ ℓ ↦[S]{fullShare.right} f) :=
    pointsTo_share (PosShare.mem_left_op_right fullShare)
  exact BI.equiv_iff.mp ⟨h.1, h.2⟩
omit [FloatOps F] in
theorem cPts_halves (c : Dev nD) (s : Sl) (f) :
    (cPts c s fullShare f : sProp 𝕄) = iprop(cPts c s fullShare.left f ∗ cPts c s fullShare.right f) := by
  unfold cPts; exact pts_halves (ℓ := (cS s).view.loc (c : Thread nD τ)) (cS s).view.set f
omit [FloatOps F] in
theorem rPts_halves (c : Dev nD) (s : Sl) (f) :
    (rPts c s fullShare f : sProp 𝕄) = iprop(rPts c s fullShare.left f ∗ rPts c s fullShare.right f) := by
  unfold rPts; exact pts_halves (ℓ := (rS s).view.loc (c : Thread nD τ)) (rS s).view.set f

end Cert.Gather

end
-- ==== Proof.Protocol.lean ====
/-
# The protocol of the transfers

Every semaphore the kernel uses is a cell with one round of duties. A slice's five transfer semaphores have one duty
each, worth the slice's credit, whose payload is the memory that the completed transfer hands to the device that waits.
The barrier semaphore of a device has two duties of one unit: each neighbour pays one by its signal, and hands over the
memory that the device is going to write there.

A wait may only be for a semaphore below everything the device still owes. The levels are: barrier 1, received along
`y` 2, received along `x` 3, all others 0.
-/
module

public import proofs.«01_k».proof.Proof.Contents

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the pipeline library's and the protocol's ghost state lie. -/
abbrev EP : Emb (UR sig nD τ) (MT nD τ sig Unit (Elt F) ℕ UU ℕ) := embL
abbrev ER : Emb UG (MT nD τ sig Unit (Elt F) ℕ UU ℕ) := embR

variable (m : (ℓ : Loc nD τ sig) → Buf (Elt F) ℓ) (ρ : Dev nD → PrngReg)

/-! ## Cells -/

/-- A device's cells: its barrier, and the semaphore of family `k` of slice `s`. -/
abbrev CellIx : Type := Unit ⊕ (Fin 5 × Sl)
abbrev bCell (c : Dev nD) : GSem nD τ sig := ((c : Thread nD τ), .reg barS)
abbrev xCell (c : Dev nD) (k : Fin 5) (s : Sl) : GSem nD τ sig := ((c : Thread nD τ), .dma (sem k s))

def csem : CellIx → SemLoc sig
  | .inl _ => .reg barS
  | .inr ks => .dma (sem ks.1 ks.2)
def kcell (ck : Dev nD × CellIx) : GSem nD τ sig := ((ck.1 : Thread nD τ), csem ck.2)

/-- Which of a device's cells a semaphore is, if any. -/
def decode : SemLoc sig → Option CellIx
  | .reg q => if q = barS then some (.inl ()) else none
  | .dma q => if h : 2 ≤ q.val ∧ q.val < 87 then some (.inr (⟨(q.val - 2) / 17, by omega⟩, ⟨(q.val - 2) % 17, by omega⟩)) else none

theorem decode_bar : decode (.reg barS) = some (.inl ()) := by unfold decode; exact if_pos rfl
theorem decode_sem (k : Fin 5) (s : Sl) : decode (.dma (sem k s)) = some (.inr (k, s)) := by
  have hk := k.isLt
  have hs := s.isLt
  have hv : (sem k s).val = 2 + 17 * k.val + s.val := rfl
  unfold decode
  dsimp only
  rw [dif_pos (by omega)]
  refine congrArg some (congrArg Sum.inr (Prod.ext (Fin.ext ?_) (Fin.ext ?_)))
  · show ((sem k s).val - 2) / 17 = k.val; omega
  · show ((sem k s).val - 2) % 17 = s.val; omega
theorem decode_csem (k : CellIx) : decode (csem k) = some k := by
  rcases k with u | ⟨k, s⟩
  · exact decode_bar
  · exact decode_sem k s
theorem csem_injective : Function.Injective csem := fun k k' h =>
  Option.some.inj ((decode_csem k).symm.trans ((congrArg decode h).trans (decode_csem k')))
theorem kcell_injective : Function.Injective kcell := fun x y h => by
  have h1 : x.1 = y.1 := congrArg (fun g : GSem nD τ sig => g.1.1) h
  have h2 : x.2 = y.2 := csem_injective (congrArg Prod.snd h)
  exact Prod.ext h1 h2

/-! ## Credits -/

/-- The credit of slice `s`. -/
abbrev N (s : Sl) : ℕ := (rS s).view.dmaCredit
theorem N_pos (s : Sl) : 0 < N s := View.dmaCredit_pos _ (sh_pos s)
/-- It is the same in each buffer. -/
theorem credit_c (s : Sl) : (cS s).view.dmaCredit = N s := by revert s; decide +kernel
theorem credit_o (c : Dev nD) (s : Sl) : (oS c s).view.dmaCredit = N s := by revert c s; decide +kernel

/-! ## Payloads -/

/-- What the transfer semaphore of family `k` of slice `s` hands to device `c`. -/
def pay (c : Dev nD) (k : Fin 5) (s : Sl) : sProp 𝕄 :=
  match k with
  | 0 => cPts c s fullShare.left (sent m ρ c)
  | 1 => rPts c s fullShare (recvd m ρ c)
  | 2 => rPts c s fullShare.left (recvd m ρ c)
  | 3 => oPts c (devX c) s (res m ρ c)
  | 4 => iprop(oPts c c s (res m ρ c) ∗ rPts c s fullShare.right (recvd m ρ c))

/-- What a signal at device `c`'s barrier hands over: from the neighbour along `y` its buffer of received rows, from
    the one along `x` the rows of its result that `c` writes. -/
def barPay (c : Dev nD) (d : Bool) : sProp 𝕄 :=
  match d with
  | false => iprop(∃ f, bigSep Finset.univ fun s : Sl => rPts (devY c) s fullShare f)
  | true => iprop(∃ f, bigSep Finset.univ fun s : Sl => oPts (devX c) c s f)

omit [FloatOps F] in
instance pay_storable (c : Dev nD) (k : Fin 5) (s : Sl) : BI.Storable (upEmb : UEmb _ 𝕄) (pay (F := F) m ρ c k s) := by
  unfold pay; split <;> infer_instance
omit [FloatOps F] in
instance barPay_storable (c : Dev nD) (d : Bool) : BI.Storable (upEmb : UEmb _ 𝕄) (barPay (F := F) c d) := by
  unfold barPay; split <;> infer_instance

/-! ## The schedule -/

def dutiesOf : Option CellIx → Finset Bool
  | some (.inl _) => Finset.univ
  | some (.inr _) => {false}
  | none => ∅
def amountOf : Option CellIx → ℕ
  | some (.inr ks) => N ks.2
  | _ => 1
def payOf (c : Dev nD) (d : Bool) : Option CellIx → sProp 𝕄
  | some (.inl _) => barPay c d
  | some (.inr ks) => pay m ρ c ks.1 ks.2
  | none => iprop(emp)

/-- One round of duties per cell. -/
def Rd : Rounds.Schedule (GSem nD τ sig) Bool 𝕄 where
  duties g r := if r = 0 ∧ g.1.2 = .tc then dutiesOf (decode g.2) else ∅
  unitless _ := False
  amount g _ _ := amountOf (decode g.2)
  payload g _ d := payOf m ρ g.1.1 d (decode g.2)
  amount_pos g _ _ _ := by
    unfold amountOf; split
    · exact N_pos _
    · exact Nat.one_pos

omit [FloatOps F] in
instance Rd_payload_storable (g : GSem nD τ sig) (r : ℕ) (d : Bool) : BI.Storable (upEmb : UEmb _ 𝕄) ((Rd (F := F) m ρ).payload g r d) := by
  show BI.Storable upEmb (payOf m ρ g.1.1 d (decode g.2))
  unfold payOf; split <;> infer_instance

section Sched
variable (c : Dev nD) (k : Fin 5) (s : Sl) (d : Bool)

omit [FloatOps F] in
theorem duties_bar : (Rd (F := F) m ρ).duties (bCell c) 0 = Finset.univ := by
  dsimp only [Rd]; rw [if_pos ⟨rfl, rfl⟩]; exact congrArg dutiesOf decode_bar
omit [FloatOps F] in
theorem duties_x : (Rd (F := F) m ρ).duties (xCell c k s) 0 = {false} := by
  dsimp only [Rd]; rw [if_pos ⟨rfl, rfl⟩]; exact congrArg dutiesOf (decode_sem k s)
omit [FloatOps F] in
theorem mem_duties_x : false ∈ (Rd (F := F) m ρ).duties (xCell c k s) 0 := by
  rw [duties_x]; exact Finset.mem_singleton_self _
omit [FloatOps F] in
theorem duties_later (g : GSem nD τ sig) : ∀ r, 1 ≤ r → (Rd (F := F) m ρ).duties g r = ∅ :=
  fun r hr => if_neg fun h => by omega
omit [FloatOps F] in
theorem amount_bar : (Rd (F := F) m ρ).amount (bCell c) 0 d = 1 := congrArg amountOf decode_bar
omit [FloatOps F] in
theorem amount_x : (Rd (F := F) m ρ).amount (xCell c k s) 0 d = N s := congrArg amountOf (decode_sem k s)
omit [FloatOps F] in
theorem payload_bar : (Rd (F := F) m ρ).payload (bCell c) 0 d = barPay c d := congrArg (payOf m ρ c d) decode_bar
omit [FloatOps F] in
theorem payload_x : (Rd (F := F) m ρ).payload (xCell c k s) 0 d = pay m ρ c k s := congrArg (payOf m ρ c d) (decode_sem k s)
omit [FloatOps F] in
theorem expect_bar : (Rd (F := F) m ρ).expect (bCell c) 0 = 2 := by
  unfold Schedule.expect Schedule.amountOf
  rw [duties_bar, Finset.sum_congr rfl fun d _ => amount_bar m ρ c d, Finset.sum_const, Finset.card_univ, Fintype.card_bool, smul_eq_mul]
omit [FloatOps F] in
theorem expect_x : (Rd (F := F) m ρ).expect (xCell c k s) 0 = N s := by
  unfold Schedule.expect Schedule.amountOf; rw [duties_x, Finset.sum_singleton, amount_x]
omit [FloatOps F] in
/-- What waiting for all of a round brings: both signals' payloads at the barrier, the one payload at a transfer semaphore. -/
theorem rest_bar : bigSep ((Rd (F := F) m ρ).duties (bCell c) 0 \ ∅) (fun d => (Rd (F := F) m ρ).payload (bCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
omit [FloatOps F] in
theorem rest_x : bigSep ((Rd (F := F) m ρ).duties (xCell c k s) 0 \ ∅) (fun d => (Rd (F := F) m ρ).payload (xCell c k s) 0 d)
    = pay m ρ c k s := by
  rw [Finset.sdiff_empty, duties_x, bigSep_singleton, payload_x]

end Sched

/-! ## What a device owes, and the levels -/

/-- Device `c` owes the slices in `l` to its neighbour along `y` (`k` = 1) or along `x` (`k` = 3), device `d`. -/
def owed (d : Dev nD) (k : Fin 5) : List Sl → CellTallies nD τ sig Unit
  | [] => 0
  | s :: l => owed d k l + tallyAt (xCell d k s) () (N s)

/-- After the handshake it owes both neighbours every slice; -/
def O₂ (c : Dev nD) : CellTallies nD τ sig Unit := owed (devX c) 3 slices + owed (devY c) 1 slices
/-- before it, also a signal to each: the first signal goes along `y`. -/
def O₁ (c : Dev nD) : CellTallies nD τ sig Unit := O₂ c + tallyAt (bCell (devX c)) () 1
def O₀ (c : Dev nD) : CellTallies nD τ sig Unit := O₁ c + tallyAt (bCell (devY c)) () 1

def L (g : GSem nD τ sig) : Finset Unit := if g.1.2 = .tc then {()} else ∅
def lvOf : Option CellIx → ℕ
  | some (.inl _) => 1
  | some (.inr ks) => if ks.1 = 1 then 2 else if ks.1 = 3 then 3 else 0
  | none => 0
def lv (g : GSem nD τ sig) (_ : Unit) : ℕ := lvOf (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (bCell c) () = 1 := congrArg lvOf decode_bar
theorem lv_x (c : Dev nD) (k : Fin 5) (s : Sl) : lv (xCell c k s) () = if k = 1 then 2 else if k = 3 then 3 else 0 :=
  congrArg lvOf (decode_sem k s)

/-- Everything that is owed is owed to TensorCore cells above level `n`. -/
def Above (n : ℕ) (O : CellTallies nD τ sig Unit) : Prop :=
  ∀ (g : GSem nD τ sig) (u : Unit), 0 < O g u → g.1.2 = .tc ∧ n < lv g u

theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (sm : SemLoc sig) (a : ℕ) (h : n < lv ((c : Thread nD τ), sm) ()) :
    Above n (tallyAt ((c : Thread nD τ), sm) () a) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)
theorem above_zero (n : ℕ) : Above n 0 := fun g u hg => absurd hg (Nat.lt_irrefl 0)
theorem above_owed {n : ℕ} (d : Dev nD) (k : Fin 5) (h : n < if k = 1 then 2 else if k = 3 then 3 else 0) (l : List Sl) : Above n (owed d k l) := by
  induction l with
  | nil => exact above_zero n
  | cons s l ih => exact above_add ih (above_tally d _ _ (by rw [lv_x]; exact h))
theorem above_O₂ (c : Dev nD) : Above 1 (O₂ c) := above_add (above_owed _ _ (by decide) _) (above_owed _ _ (by decide) _)
theorem above_mono {n n' : ℕ} (h : n ≤ n') {O : CellTallies nD τ sig Unit} (hO : Above n' O) : Above n O :=
  fun g u hg => ⟨(hO g u hg).1, lt_of_le_of_lt h (hO g u hg).2⟩
theorem above_O₀ (c : Dev nD) : Above 0 (O₀ c) :=
  above_add (above_add (above_mono (Nat.zero_le 1) (above_O₂ c)) (above_tally _ _ _ (by rw [lv_bar]; decide))) (above_tally _ _ _ (by rw [lv_bar]; decide))

omit [FloatOps F] in
/-- A device may wait for a semaphore that lies below everything it owes. -/
theorem mayWait (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by rw [L, if_pos (h g u hg).1]; exact Finset.mem_singleton_self _)
    (fun p hp => by rw [Finset.mem_singleton.mp hp])
    (fun g u hg => (h g u hg).2)

/-! ## The protocol's persistent records -/

/-- Every cell's invariant, under the names `K`, and that every cell has reached its round. -/
def records (K : Dev nD × CellIx → ℕ) : sProp 𝕄 :=
  iprop((bigSep Finset.univ fun ck : Dev nD × CellIx => cellInv ER (Rd m ρ) (K ck) (kcell ck))
    ∗ bigSep Finset.univ fun ck : Dev nD × CellIx => reached ER (kcell ck) 0)

omit [FloatOps F] in
instance records_persistent (K : Dev nD × CellIx → ℕ) : BI.Persistent (records (F := F) m ρ K) := by unfold records; infer_instance

variable (K : Dev nD × CellIx → ℕ)

omit [FloatOps F] in
theorem inv_of (ck : Dev nD × CellIx) : records m ρ K ⊢ (cellInv ER (Rd m ρ) (K ck) (kcell ck) : sProp 𝕄) := by
  unfold records
  exact (BI.Entails.trans BI.sep_and BI.and_elimL).trans (BI.bigSep_elim (Finset.mem_univ ck))
omit [FloatOps F] in
theorem reached_of (ck : Dev nD × CellIx) : records m ρ K ⊢ (reached ER (kcell ck) 0 : sProp 𝕄) := by
  unfold records
  exact (BI.Entails.trans BI.sep_and BI.and_elimR).trans (BI.bigSep_elim (Finset.mem_univ ck))
omit [FloatOps F] in
theorem inv_x (c : Dev nD) (k : Fin 5) (s : Sl) : records m ρ K ⊢ (cellInv ER (Rd m ρ) (K (c, .inr (k, s))) (xCell c k s) : sProp 𝕄) :=
  inv_of m ρ K (c, .inr (k, s))
omit [FloatOps F] in
theorem inv_bar (c : Dev nD) : records m ρ K ⊢ (cellInv ER (Rd m ρ) (K (c, .inl ())) (bCell c) : sProp 𝕄) :=
  inv_of m ρ K (c, .inl ())
omit [FloatOps F] in
theorem reached_x (c : Dev nD) (k : Fin 5) (s : Sl) : records m ρ K ⊢ (reached ER (xCell c k s) 0 : sProp 𝕄) :=
  reached_of m ρ K (c, .inr (k, s))
omit [FloatOps F] in
theorem reached_bar (c : Dev nD) : records m ρ K ⊢ (reached ER (bCell c) 0 : sProp 𝕄) :=
  reached_of m ρ K (c, .inl ())

end Cert.Gather

end
-- ==== Proof.Steps.lean ====
/-
# The passes at one slice, and a pass over all slices

One lemma per pass, at a symbolic slice: what the pass needs of the slice, and what it leaves. `over_spec` runs such a
lemma over a list of slices.
-/
module

public import proofs.«01_k».proof.Proof.Protocol
public import Idealize.ShloMosaic.Lib.Pipeline.BigSepL

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

abbrev 𝒱₀ : Variants := Variants.none

/-- The weakest precondition of a program of device `c`. -/
abbrev wpk (c : Dev nD) (p : Run F) (Q : PUnit → sProp 𝕄) : sProp 𝕄 :=
  wp frame (wpE (defs₀ (F := F)) 𝒱₀ (c : Thread nD τ) none) Set.univ p Q

/-- Device `c` owes `O`, whatever it has waited for. -/
def owesE (c : Dev nD) (O : CellTallies nD τ sig Unit) : sProp 𝕄 := iprop(∃ W : Waits sig Unit, owes (c : Thread nD τ) O W)

/-- Device `c` holds its `x` block. -/
def xPts (c : Dev nD) : sProp 𝕄 :=
  (xM : Memref sig .tc .vmem S2048x512 .bf16).view.loc (c : Thread nD τ) ↦{fullShare} xstg m ρ c

/-! ## Lists of slices -/

/-- A pass over a list of slices: if at every slice the pass takes what is threaded from the rest of the list, and the
    slice's own share, so does the whole. -/
theorem over_spec (c : Dev nD) (f : Sl → Run F) (R : List Sl → sProp 𝕄) (Pre Post : Sl → sProp 𝕄)
    (h : ∀ s l (k : Run F) (Q : PUnit → sProp 𝕄),
      iprop(R (s :: l) ∗ Pre s ∗ ((R l ∗ Post s) -∗ wpk c k Q)) ⊢ wpk c (f s >>= fun _ => k) Q)
    (l : List Sl) (k : Run F) (Q : PUnit → sProp 𝕄) :
    iprop(R l ∗ bigSepL l Pre ∗ ((R [] ∗ bigSepL l Post) -∗ wpk c k Q)) ⊢ wpk c (over f l k) Q := by
  induction l generalizing k Q with
  | nil =>
    show iprop(R [] ∗ bigSepL [] Pre ∗ ((R [] ∗ bigSepL [] Post) -∗ wpk c k Q)) ⊢ wpk c k Q
    iintro ⟨HR, HP, Hk⟩
    iapply Hk
    isplitl [HR]; · iexact HR
    rw [show bigSepL [] Post = iprop(emp) from rfl]; iempintro
  | cons s l ih =>
    show iprop(R (s :: l) ∗ bigSepL (s :: l) Pre ∗ ((R [] ∗ bigSepL (s :: l) Post) -∗ wpk c k Q)) ⊢ wpk c (f s >>= fun _ => over f l k) Q
    rw [bigSepL_cons', bigSepL_cons']
    iintro ⟨HR, ⟨Hs, Hl⟩, Hk⟩
    iapply (h s l (over f l k) Q)
    isplitl [HR]; · iexact HR
    isplitl [Hs]; · iexact Hs
    iintro ⟨HR, Hs⟩
    iapply (ih k Q)
    isplitl [HR]; · iexact HR
    isplitl [Hl]; · iexact Hl
    iintro ⟨HR, Hl⟩
    iapply Hk
    isplitl [HR]; · iexact HR
    isplitl [Hs] <;> iassumption

omit [FloatOps F] in
/-- A separating conjunction over all slices is the one over their list. -/
theorem bigSep_slices (Φ : Sl → sProp 𝕄) : bigSep Finset.univ Φ = bigSepL slices Φ :=
  bigSep_univ_eq_bigSepL slices (by decide) (by decide) Φ

/-- The credit of a slice of the buffer of received rows, and what arrives along `x`, by their definitions. -/
theorem credit_r (s : Sl) : (rS s).view.dmaCredit = N s := rfl
theorem owed_cons (d : Dev nD) (k : Fin 5) (s : Sl) (l : List Sl) : owed d k (s :: l) = owed d k l + tallyAt (xCell d k s) () (N s) := rfl
omit [FloatOps F] in
theorem pay_0 (c : Dev nD) (s : Sl) : pay m ρ c 0 s = (cPts c s fullShare.left (sent m ρ c) : sProp 𝕄) := rfl
omit [FloatOps F] in
theorem pay_2 (c : Dev nD) (s : Sl) : pay m ρ c 2 s = (rPts c s fullShare.left (recvd m ρ c) : sProp 𝕄) := rfl
omit [FloatOps F] in
theorem pay_3 (c : Dev nD) (s : Sl) : pay m ρ c 3 s = (oPts c (devX c) s (res m ρ c) : sProp 𝕄) := rfl
omit [FloatOps F] in
theorem pay_x (c : Dev nD) (s : Sl) : pay m ρ (devX c) 3 s = (oPts (devX c) c s (res m ρ (devX c)) : sProp 𝕄) := by
  show oPts (devX c) (devX (devX c)) s (res m ρ (devX c)) = _
  rw [devX_devX]

/-! ## A wait -/

/-- Waiting for a transfer semaphore of slice `s`, with a destination of the slice's credit: the cell's payload comes,
    and the cell closes. -/
theorem wait_step (c : Dev nD) (k : Fin 5) (s : Sl) (O : CellTallies nD τ sig Unit)
    (hO : Above (lv (xCell c k s) ()) O)
    {sp sp' : Space} {s₁ s₂ : Shape} {e₁ e₂ : EltTy} {src : Memref sig .tc sp' s₁ e₁} {dst : Memref sig .tc sp s₂ e₂}
    {hsrc : src.view.WordExact} {hdst : dst.view.WordExact} (hN : dst.view.dmaCredit = N s)
    (p : PUnit → Run F) (Q : PUnit → sProp 𝕄) :
    iprop(records m ρ K ∗ levAts L lv ∗ owesE c O ∗ atPos ER (xCell c k s) 0 ∅ 0 ∗ cred (tallyAt (xCell c k s) () (N s)))
      ⊢ iprop(((owesE c O ∗ semVal (xCell c k s) 0 ∗ pay m ρ c k s) -∗ wpk c (p ⟨⟩) Q)
        -∗ wpk c (.op (.waitDma2 (sem k s) src dst hsrc hdst) p) Q) := by
  unfold owesE
  iintro ⟨#HR, #Hlev, ⟨%W, HO⟩, Hat, Hc⟩ Hk
  rw [← hN]
  iapply (Rounds.wp_wait_rest_token 𝒱₀ ER (Rd m ρ) (c : Thread nD τ) none (κ := K (c, .inr (k, s)))
      (wpE_waitDma2_eq 𝒱₀ (c : Thread nD τ) none Set.univ) (Set.mem_univ _) () (O := O) (W := W) (R := 0) (m := 0) (T := ∅)
      (by rw [Nat.zero_add, hN]; exact (expect_x m ρ c k s).symm)) $$ [HO Hat Hc]
  · isplitr; · iapply (inv_x m ρ K c k s); iexact HR
    isplitl [Hc]; · iexact Hc
    isplitl [HO]; · iexact HO
    isplitr; · iapply (mayWait c (.dma (sem k s)) O hO); iexact Hlev
    iexact Hat
  iintro ⟨HO, Hat, -, Hpay⟩
  ihave Hp := (Entails.of_eq (rest_x m ρ c k s)) $$ Hpay
  imod (Rounds.cell_close ER (Rd m ρ) (Set.mem_univ (K (c, .inr (k, s)))) (fun h => h) (R := 0 + 1) (duties_later m ρ (xCell c k s))) $$ [Hat] with Hz
  · isplitr; · iapply (inv_x m ρ K c k s); iexact HR
    iexact Hat
  iapply Hk
  isplitl [HO]; · iexists _; iexact HO
  isplitl [Hz] <;> iassumption

/-! ## First pass -/

/-- What the first pass needs of slice `s`: the two buffers' rows, here and at the neighbour along `y`, and the two tokens. -/
def sendPre (f₁ : (cc0_scratch0 : Ref sig .tc).ty.Contents (Elt F)) (f₂ : (cc0_scratch1 : Ref sig .tc).ty.Contents (Elt F))
    (c : Dev nD) (s : Sl) : sProp 𝕄 :=
  iprop(cPts c s fullShare f₁ ∗ rPts (devY c) s fullShare f₂ ∗ dutyTok ER (xCell c 0 s) 0 false ∗ dutyTok ER (xCell (devY c) 1 s) 0 false)
/-- What it leaves: half a share of the sent rows, and the credit to wait for the other half. -/
def sendPost (c : Dev nD) (s : Sl) : sProp 𝕄 :=
  iprop(cPts c s fullShare.right (sent m ρ c) ∗ cred (tallyAt (xCell c 0 s) () (N s)))
/-- What is threaded through the first pass. -/
def sendR (c : Dev nD) (l : List Sl) : sProp 𝕄 :=
  iprop(owesE c (owed (devX c) 3 slices + owed (devY c) 1 l) ∗ xPts m ρ c ∗ records m ρ K)

theorem send_step (f₁ : (cc0_scratch0 : Ref sig .tc).ty.Contents (Elt F)) (f₂ : (cc0_scratch1 : Ref sig .tc).ty.Contents (Elt F))
    (c : Dev nD) (s : Sl) (l : List Sl) (k : Run F) (Q : PUnit → sProp 𝕄) :
    iprop(sendR m ρ K c (s :: l) ∗ sendPre f₁ f₂ c s ∗ ((sendR m ρ K c l ∗ sendPost m ρ c s) -∗ wpk c k Q))
      ⊢ wpk c (passSend c s >>= fun _ => k) Q := by
  unfold passSend
  simp only [Prog.lift, Prog.bind_op, Prog.bind_ret, Prog.pure_eq_ret]
  unfold sendR sendPre xPts owesE
  iintro ⟨⟨⟨%W, HO⟩, Hx, #HR⟩, ⟨Hc, Hr, Ht0, Ht1⟩, Hk⟩
  iapply (wp_load_rect 𝒱₀ (c : Thread nD τ) none Set.univ (m := xM) (r := srcRect c s) (Finset.subset_univ _)) $$ Hx; iintro Hx
  unfold cPts
  iapply (wp_load_rect 𝒱₀ (c : Thread nD τ) none Set.univ (m := cM) (r := halfRect s) (Finset.Subset.refl _)) $$ Hc; iintro Hc
  iapply (wp_store 𝒱₀ (c : Thread nD τ) none Set.univ (m := cM) (r := halfRect s) (Mk := Finset.univ) (S := (cM.access (halfRect s)).set) (f := f₁) (Finset.Subset.refl _)) $$ Hc; iintro Hc
  simp only [shapeCast_self]
  ihave Hc := (Entails.of_eq ((pts_write c (cS s).view fullShare f₁ (sent m ρ c) _ (read_src m ρ c s).symm).trans (cPts_halves c s (sent m ρ c)))) $$ Hc
  icases Hc with ⟨Hcl, Hcr⟩
  unfold cPts rPts
  iapply (Rounds.wp_send_pointsTo 𝒱₀ ER (Rd m ρ) (c : Thread nD τ) none (κ₁ := K (c, .inr (0, s))) (κ₂ := K (devY c, .inr (1, s)))
    (r₁ := 0) (r₂ := 0) (d₁ := false) (d₂ := false) (q := fullShare.left) (fs := sent m ρ c) (fd := f₂)
    (mem_duties_x m ρ c 0 s) (mem_duties_x m ρ (devY c) 1 s)
    () () (N s) rfl (amount_x m ρ c 0 s false) (amount_x m ρ (devY c) 1 s false)
    (owed (devX c) 3 slices + owed (devY c) 1 l) (O₀ := owed (devX c) 3 slices + owed (devY c) 1 (s :: l)) (by rw [owed_cons, add_assoc]) (W := W)
    (by rw [payload_x]; exact BI.Entails.refl _)
    (by rw [payload_x]; exact Entails.of_eq (pts_write (devY c) (rS s).view fullShare f₂ (recvd m ρ (devY c)) _ (read_sent m ρ c s)))) $$ [Hcl Hr HO Ht0 Ht1]
  · isplitr; · iapply (inv_x m ρ K c 0 s); iexact HR
    isplitr; · iapply (inv_x m ρ K (devY c) 1 s); iexact HR
    isplitl [Hcl]; · iexact Hcl
    isplitl [Hr]; · iexact Hr
    isplitl [HO]; · iexact HO
    isplitl [Ht0]; · iexact Ht0
    isplitr; · iapply (reached_x m ρ K c 0 s); iexact HR
    isplitl [Ht1]; · iexact Ht1
    iapply (reached_x m ρ K (devY c) 1 s); iexact HR
  iintro ⟨Hcred, HO⟩
  iapply Hk
  isplitl [HO Hx]
  · isplitl [HO]; · iexists W; iexact HO
    isplitl [Hx]; · iexact Hx
    iexact HR
  unfold sendPost cPts
  isplitl [Hcr] <;> iassumption

/-! ## Second pass -/

/-- What the second pass needs of slice `s`: the received slice is due; the rows of the result to write, at the neighbour along `x` and
    here; and the tokens of the three transfer semaphores it pays. -/
def forwardPre (f₁ f₂ : (cc0_stg1_0 : Ref sig .tc).ty.Contents (Elt F)) (c : Dev nD) (s : Sl) : sProp 𝕄 :=
  iprop(atPos ER (xCell c 1 s) 0 ∅ 0 ∗ cred (tallyAt (xCell c 1 s) () (N s)) ∗ oPts (devX c) c s f₁ ∗ oPts c c s f₂
    ∗ dutyTok ER (xCell c 2 s) 0 false ∗ dutyTok ER (xCell (devX c) 3 s) 0 false ∗ dutyTok ER (xCell c 4 s) 0 false)
/-- What it leaves: the first semaphore is done with, and the credits to wait for the two transfers. -/
def forwardPost (c : Dev nD) (s : Sl) : sProp 𝕄 :=
  iprop(semVal (xCell c 1 s) 0 ∗ cred (tallyAt (xCell c 2 s) () (N s)) ∗ cred (tallyAt (xCell c 4 s) () (N s)))
/-- What is threaded through the second pass. -/
def forwardR (c : Dev nD) (l : List Sl) : sProp 𝕄 :=
  iprop(owesE c (owed (devX c) 3 l) ∗ records m ρ K ∗ levAts L lv)

theorem forward_step (f₁ f₂ : (cc0_stg1_0 : Ref sig .tc).ty.Contents (Elt F)) (c : Dev nD) (s : Sl) (l : List Sl) (k : Run F) (Q : PUnit → sProp 𝕄) :
    iprop(forwardR m ρ K c (s :: l) ∗ forwardPre f₁ f₂ c s ∗ ((forwardR m ρ K c l ∗ forwardPost c s) -∗ wpk c k Q))
      ⊢ wpk c (passForward c s >>= fun _ => k) Q := by
  unfold passForward
  simp only [Prog.lift, Prog.bind_op, Prog.bind_ret, Prog.pure_eq_ret]
  unfold forwardR forwardPre
  iintro ⟨⟨HO, #HR, #Hlev⟩, ⟨Hat, Hcr, Hox, Ho, Ht2, Ht3, Ht4⟩, Hk⟩
  iapply (wait_step m ρ K c 1 s (owed (devX c) 3 (s :: l)) (by rw [lv_x]; exact above_owed _ _ (by decide) _) (credit_r s)) $$ [HO Hat Hcr]
  · isplitr; · iexact HR
    isplitr; · iexact Hlev
    isplitl [HO]; · iexact HO
    isplitl [Hat] <;> iassumption
  iintro ⟨HO, Hz, Hp⟩
  ihave Hr := (Entails.of_eq ((show pay m ρ c 1 s = rPts c s fullShare (recvd m ρ c) from rfl).trans (rPts_halves c s (recvd m ρ c)))) $$ Hp
  icases Hr with ⟨Hrl, Hrr⟩
  unfold owesE rPts oPts
  icases HO with ⟨%W, HO⟩
  iapply (Rounds.wp_send_pointsTo 𝒱₀ ER (Rd m ρ) (c : Thread nD τ) none (κ₁ := K (c, .inr (2, s))) (κ₂ := K (devX c, .inr (3, s)))
    (r₁ := 0) (r₂ := 0) (d₁ := false) (d₂ := false) (q := fullShare.left) (fs := recvd m ρ c) (fd := f₁)
    (mem_duties_x m ρ c 2 s) (mem_duties_x m ρ (devX c) 3 s)
    () () (N s) (credit_o c s) (amount_x m ρ c 2 s false) (amount_x m ρ (devX c) 3 s false)
    (owed (devX c) 3 l) rfl (W := W)
    (by rw [payload_x]; exact BI.Entails.refl _)
    (by rw [payload_x]; exact Entails.of_eq ((pts_write (devX c) (oS c s).view fullShare f₁ (res m ρ (devX c)) _ (read_forward m ρ c s)).trans
          (pay_x m ρ c s).symm))) $$ [Hrl Hox HO Ht2 Ht3]
  · isplitr; · iapply (inv_x m ρ K c 2 s); iexact HR
    isplitr; · iapply (inv_x m ρ K (devX c) 3 s); iexact HR
    isplitl [Hrl]; · iexact Hrl
    isplitl [Hox]; · iexact Hox
    isplitl [HO]; · iexact HO
    isplitl [Ht2]; · iexact Ht2
    isplitr; · iapply (reached_x m ρ K c 2 s); iexact HR
    isplitl [Ht3]; · iexact Ht3
    iapply (reached_x m ρ K (devX c) 3 s); iexact HR
  iintro ⟨Hc2, HO⟩
  iapply (Rounds.wp_copy_pointsTo 𝒱₀ ER (Rd m ρ) (c : Thread nD τ) none (κ := K (c, .inr (4, s)))
    (r := 0) (d := false) (q := fullShare.right) (fs := recvd m ρ c) (fd := f₂)
    (mem_duties_x m ρ c 4 s) () (N s) (credit_o c s) (amount_x m ρ c 4 s false)
    (by rw [payload_x, pts_write c (oS c s).view fullShare f₂ (res m ρ c) _ (read_store m ρ c s)]; exact BI.Entails.refl _)) $$ [Hrr Ho Ht4]
  · isplitr; · iapply (inv_x m ρ K c 4 s); iexact HR
    isplitl [Hrr]; · iexact Hrr
    isplitl [Ho]; · iexact Ho
    isplitl [Ht4]; · iexact Ht4
    iapply (reached_x m ρ K c 4 s); iexact HR
  iintro Hc4
  iapply Hk
  isplitl [HO]
  · isplitl [HO]; · iexists W; iexact HO
    isplitr; · iexact HR
    iexact Hlev
  unfold forwardPost
  isplitl [Hz]; · iexact Hz
  isplitl [Hc2] <;> iassumption

/-! ## Third pass -/

/-- The third pass at slice `s`: the slice sent along `x` has arrived in the result. -/
def arrivePre (c : Dev nD) (s : Sl) : sProp 𝕄 :=
  iprop(atPos ER (xCell c 3 s) 0 ∅ 0 ∗ cred (tallyAt (xCell c 3 s) () (N s)))
def arrivePost (c : Dev nD) (s : Sl) : sProp 𝕄 :=
  iprop(semVal (xCell c 3 s) 0 ∗ oPts c (devX c) s (res m ρ c))
/-- What is threaded through the last two passes: nothing is owed any more. -/
def restR (c : Dev nD) : sProp 𝕄 := iprop(owesE c 0 ∗ records m ρ K ∗ levAts L lv)

theorem arrive_step (c : Dev nD) (s : Sl) (k : Run F) (Q : PUnit → sProp 𝕄) :
    iprop(restR m ρ K c ∗ arrivePre c s ∗ ((restR m ρ K c ∗ arrivePost m ρ c s) -∗ wpk c k Q))
      ⊢ wpk c (passArrive c s >>= fun _ => k) Q := by
  unfold passArrive
  simp only [Prog.lift, Prog.bind_op, Prog.bind_ret, Prog.pure_eq_ret]
  unfold restR arrivePre arrivePost
  iintro ⟨⟨HO, #HR, #Hlev⟩, ⟨Hat, Hcr⟩, Hk⟩
  iapply (wait_step m ρ K c 3 s 0 (above_zero _) (credit_o c s)) $$ [HO Hat Hcr]
  · isplitr; · iexact HR
    isplitr; · iexact Hlev
    isplitl [HO]; · iexact HO
    isplitl [Hat] <;> iassumption
  iintro ⟨HO, Hz, Hp⟩
  iapply Hk
  isplitl [HO]
  · isplitl [HO]; · iexact HO
    isplitr; · iexact HR
    iexact Hlev
  isplitl [Hz]; · iexact Hz
  rw [← pay_3]; iexact Hp

/-! ## Fourth pass -/

/-- The fourth pass at slice `s`: the own transfers are complete, and all the memory is back. -/
def drainPre (c : Dev nD) (s : Sl) : sProp 𝕄 :=
  iprop((atPos ER (xCell c 0 s) 0 ∅ 0 ∗ cred (tallyAt (xCell c 0 s) () (N s)))
    ∗ (atPos ER (xCell c 2 s) 0 ∅ 0 ∗ cred (tallyAt (xCell c 2 s) () (N s)))
    ∗ (atPos ER (xCell c 4 s) 0 ∅ 0 ∗ cred (tallyAt (xCell c 4 s) () (N s))))
def drainPost (c : Dev nD) (s : Sl) : sProp 𝕄 :=
  iprop((semVal (xCell c 0 s) 0 ∗ semVal (xCell c 2 s) 0 ∗ semVal (xCell c 4 s) 0)
    ∗ cPts c s fullShare.left (sent m ρ c) ∗ rPts c s fullShare (recvd m ρ c) ∗ oPts c c s (res m ρ c))

theorem drain_step (c : Dev nD) (s : Sl) (k : Run F) (Q : PUnit → sProp 𝕄) :
    iprop(restR m ρ K c ∗ drainPre c s ∗ ((restR m ρ K c ∗ drainPost m ρ c s) -∗ wpk c k Q))
      ⊢ wpk c (passDrain c s >>= fun _ => k) Q := by
  unfold passDrain
  simp only [Prog.lift, Prog.bind_op, Prog.bind_ret, Prog.pure_eq_ret]
  unfold restR drainPre drainPost
  rw [rPts_halves]
  iintro ⟨⟨HO, #HR, #Hlev⟩, ⟨⟨Hat0, Hcr0⟩, ⟨Hat2, Hcr2⟩, ⟨Hat4, Hcr4⟩⟩, Hk⟩
  iapply (wait_step m ρ K c 0 s 0 (above_zero _) (credit_c s)) $$ [HO Hat0 Hcr0]
  · isplitr; · iexact HR
    isplitr; · iexact Hlev
    isplitl [HO]; · iexact HO
    isplitl [Hat0] <;> iassumption
  iintro ⟨HO, Hz0, Hp0⟩
  iapply (wait_step m ρ K c 2 s 0 (above_zero _) (credit_r s)) $$ [HO Hat2 Hcr2]
  · isplitr; · iexact HR
    isplitr; · iexact Hlev
    isplitl [HO]; · iexact HO
    isplitl [Hat2] <;> iassumption
  iintro ⟨HO, Hz2, Hp2⟩
  iapply (wait_step m ρ K c 4 s 0 (above_zero _) (credit_o c s)) $$ [HO Hat4 Hcr4]
  · isplitr; · iexact HR
    isplitr; · iexact Hlev
    isplitl [HO]; · iexact HO
    isplitl [Hat4] <;> iassumption
  iintro ⟨HO, Hz4, Hp4⟩
  ihave Hp4 := (Entails.of_eq (show pay m ρ c 4 s = iprop(oPts c c s (res m ρ c) ∗ rPts c s fullShare.right (recvd m ρ c)) from rfl)) $$ Hp4
  icases Hp4 with ⟨Ho, Hrr⟩
  iapply Hk
  isplitl [HO]
  · isplitl [HO]; · iexact HO
    isplitr; · iexact HR
    iexact Hlev
  isplitl [Hz0 Hz2 Hz4]
  · isplitl [Hz0]; · iexact Hz0
    isplitl [Hz2] <;> iassumption
  isplitl [Hp0]; · rw [← pay_0]; iexact Hp0
  isplitl [Hp2 Hrr]
  · isplitl [Hp2]; · rw [← pay_2]; iexact Hp2
    iexact Hrr
  iexact Ho

/-! ## The own stores -/

/-- Between the first and the second pass, the own block goes into the result. -/
theorem own_step (f : (cc0_stg1_0 : Ref sig .tc).ty.Contents (Elt F)) (c : Dev nD) (k : Run F) (Q : PUnit → sProp 𝕄) :
    iprop(((((c : Thread nD τ).loc cc0_scratch0) ↦{fullShare.right} sent m ρ c) ∗ xPts m ρ c ∗ ownPts c f ∗ restPts c f)
        ∗ (((((c : Thread nD τ).loc cc0_scratch0) ↦{fullShare.right} sent m ρ c) ∗ xPts m ρ c ∗ ownPts c (res m ρ c) ∗ restPts c (res m ρ c)) -∗ wpk c k Q))
      ⊢ wpk c (ownStores c >>= fun _ => k) Q := by
  unfold ownStores
  simp only [Prog.lift, Prog.bind_op, Prog.bind_ret, Prog.pure_eq_ret]
  unfold xPts ownPts restPts
  iintro ⟨⟨Hc, Hx, Ho, Hq⟩, Hk⟩
  iapply (wp_load_rect 𝒱₀ (c : Thread nD τ) none Set.univ (m := cM) (r := wholeRect) (Finset.subset_univ _)) $$ Hc; iintro Hc
  iapply (wp_load_rect 𝒱₀ (c : Thread nD τ) none Set.univ (m := oM) (r := ownRect c) (Finset.Subset.refl _)) $$ Ho; iintro Ho
  iapply (wp_store 𝒱₀ (c : Thread nD τ) none Set.univ (m := oM) (r := ownRect c) (Mk := Finset.univ) (S := (oM.access (ownRect c)).set) (f := f)
    (Finset.Subset.refl _)) $$ Ho; iintro Ho
  ihave Ho := (Entails.of_eq (pts_write c (oM.access (ownRect c)) fullShare f (res m ρ c) _ (read_own m ρ c))) $$ Ho
  iapply (wp_load_rect 𝒱₀ (c : Thread nD τ) none Set.univ (m := xM) (r := keptRect c) (Finset.subset_univ _)) $$ Hx; iintro Hx
  iapply (wp_load_rect 𝒱₀ (c : Thread nD τ) none Set.univ (m := oM) (r := restRect c) (Finset.Subset.refl _)) $$ Hq; iintro Hq
  iapply (wp_store 𝒱₀ (c : Thread nD τ) none Set.univ (m := oM) (r := restRect c) (Mk := Finset.univ) (S := (oM.access (restRect c)).set) (f := f)
    (Finset.Subset.refl _)) $$ Hq; iintro Hq
  ihave Hq := (Entails.of_eq (pts_write c (oM.access (restRect c)) fullShare f (res m ρ c)
    (k0_pay20 ((xM.access (keptRect c)).read (Elt F) (xstg m ρ c))) ((read_rest m ρ c).trans (by unfold k0_pay20; exact (shapeCast_self _ _).symm)))) $$ Hq
  iapply Hk
  isplitl [Hc]; · iexact Hc
  isplitl [Hx]; · iexact Hx
  isplitl [Ho] <;> iassumption

end Cert.Gather

end
-- ==== Proof.Body.lean ====
/-
# The body of the kernel

The handshake, the four passes and the own stores one after the other: from the memory and the protocol state at the
start of the kernel to the result, with every semaphore back at zero.
-/
module

public import proofs.«01_k».proof.Proof.Steps

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-! ## What the passes take and leave, over all slices -/

omit [FloatOps F] in
theorem sendPre_all (f₁ : (cc0_scratch0 : Ref sig .tc).ty.Contents (Elt F)) (f₂ : (cc0_scratch1 : Ref sig .tc).ty.Contents (Elt F)) (c : Dev nD) :
    (bigSepL slices fun s => sendPre f₁ f₂ c s : sProp 𝕄)
      = iprop((bigSep Finset.univ fun s => cPts c s fullShare f₁) ∗ (bigSep Finset.univ fun s => rPts (devY c) s fullShare f₂)
        ∗ (bigSep Finset.univ fun s => dutyTok ER (xCell c 0 s) 0 false) ∗ bigSep Finset.univ fun s => dutyTok ER (xCell (devY c) 1 s) 0 false) := by
  rw [← bigSep_slices]; unfold sendPre; simp only [bigSep_sep']
omit [FloatOps F] in
theorem sendPost_all (c : Dev nD) :
    (bigSepL slices fun s => sendPost m ρ c s : sProp 𝕄)
      = iprop((bigSep Finset.univ fun s => cPts c s fullShare.right (sent m ρ c)) ∗ bigSep Finset.univ fun s => cred (tallyAt (xCell c 0 s) () (N s))) := by
  rw [← bigSep_slices]; unfold sendPost; simp only [bigSep_sep']
omit [FloatOps F] in
theorem forwardPre_all (f₁ f₂ : (cc0_stg1_0 : Ref sig .tc).ty.Contents (Elt F)) (c : Dev nD) :
    (bigSepL slices fun s => forwardPre f₁ f₂ c s : sProp 𝕄)
      = iprop((bigSep Finset.univ fun s => atPos ER (xCell c 1 s) 0 ∅ 0) ∗ (bigSep Finset.univ fun s => cred (tallyAt (xCell c 1 s) () (N s)))
        ∗ (bigSep Finset.univ fun s => oPts (devX c) c s f₁) ∗ (bigSep Finset.univ fun s => oPts c c s f₂)
        ∗ (bigSep Finset.univ fun s => dutyTok ER (xCell c 2 s) 0 false) ∗ (bigSep Finset.univ fun s => dutyTok ER (xCell (devX c) 3 s) 0 false)
        ∗ bigSep Finset.univ fun s => dutyTok ER (xCell c 4 s) 0 false) := by
  rw [← bigSep_slices]; unfold forwardPre; simp only [bigSep_sep']
omit [FloatOps F] in
theorem forwardPost_all (c : Dev nD) :
    (bigSepL slices fun s => forwardPost c s : sProp 𝕄)
      = iprop((bigSep Finset.univ fun s => semVal (xCell c 1 s) 0) ∗ (bigSep Finset.univ fun s => cred (tallyAt (xCell c 2 s) () (N s)))
        ∗ bigSep Finset.univ fun s => cred (tallyAt (xCell c 4 s) () (N s))) := by
  rw [← bigSep_slices]; unfold forwardPost; simp only [bigSep_sep']
omit [FloatOps F] in
theorem arrivePre_all (c : Dev nD) :
    (bigSepL slices fun s => arrivePre c s : sProp 𝕄)
      = iprop((bigSep Finset.univ fun s => atPos ER (xCell c 3 s) 0 ∅ 0) ∗ bigSep Finset.univ fun s => cred (tallyAt (xCell c 3 s) () (N s))) := by
  rw [← bigSep_slices]; unfold arrivePre; simp only [bigSep_sep']
omit [FloatOps F] in
theorem arrivePost_all (c : Dev nD) :
    (bigSepL slices fun s => arrivePost m ρ c s : sProp 𝕄)
      = iprop((bigSep Finset.univ fun s => semVal (xCell c 3 s) 0) ∗ bigSep Finset.univ fun s => oPts c (devX c) s (res m ρ c)) := by
  rw [← bigSep_slices]; unfold arrivePost; simp only [bigSep_sep']
omit [FloatOps F] in
theorem drainPre_all (c : Dev nD) :
    (bigSepL slices fun s => drainPre c s : sProp 𝕄)
      = iprop(((bigSep Finset.univ fun s => atPos ER (xCell c 0 s) 0 ∅ 0) ∗ bigSep Finset.univ fun s => cred (tallyAt (xCell c 0 s) () (N s)))
        ∗ ((bigSep Finset.univ fun s => atPos ER (xCell c 2 s) 0 ∅ 0) ∗ bigSep Finset.univ fun s => cred (tallyAt (xCell c 2 s) () (N s)))
        ∗ ((bigSep Finset.univ fun s => atPos ER (xCell c 4 s) 0 ∅ 0) ∗ bigSep Finset.univ fun s => cred (tallyAt (xCell c 4 s) () (N s)))) := by
  rw [← bigSep_slices]; unfold drainPre; simp only [bigSep_sep']
omit [FloatOps F] in
theorem drainPost_all (c : Dev nD) :
    (bigSepL slices fun s => drainPost m ρ c s : sProp 𝕄)
      = iprop(((bigSep Finset.univ fun s => semVal (xCell c 0 s) 0) ∗ (bigSep Finset.univ fun s => semVal (xCell c 2 s) 0) ∗ bigSep Finset.univ fun s => semVal (xCell c 4 s) 0)
        ∗ (bigSep Finset.univ fun s => cPts c s fullShare.left (sent m ρ c)) ∗ (bigSep Finset.univ fun s => rPts c s fullShare (recvd m ρ c))
        ∗ bigSep Finset.univ fun s => oPts c c s (res m ρ c)) := by
  rw [← bigSep_slices]; unfold drainPost; simp only [bigSep_sep']

theorem owed_nil (d : Dev nD) (k : Fin 5) : owed d k [] = 0 := rfl

/-! ## Start and end -/

/-- The protocol state of slice `s` that device `c` starts with: its positions at the slice's five semaphores, and the tokens it pays with. -/
def sliceAt (c : Dev nD) (s : Sl) : sProp 𝕄 :=
  iprop(atPos ER (xCell c 0 s) 0 ∅ 0 ∗ atPos ER (xCell c 1 s) 0 ∅ 0 ∗ atPos ER (xCell c 2 s) 0 ∅ 0 ∗ atPos ER (xCell c 3 s) 0 ∅ 0 ∗ atPos ER (xCell c 4 s) 0 ∅ 0)
def sliceToks (c : Dev nD) (s : Sl) : sProp 𝕄 :=
  iprop(dutyTok ER (xCell c 0 s) 0 false ∗ dutyTok ER (xCell (devY c) 1 s) 0 false ∗ dutyTok ER (xCell c 2 s) 0 false
    ∗ dutyTok ER (xCell (devX c) 3 s) 0 false ∗ dutyTok ER (xCell c 4 s) 0 false)
/-- The credit to wait for the slice from both neighbours. -/
def sliceCred (c : Dev nD) (s : Sl) : sProp 𝕄 :=
  iprop(cred (tallyAt (xCell c 1 s) () (N s)) ∗ cred (tallyAt (xCell c 3 s) () (N s)))
/-- The slice's semaphores, all at zero. -/
def sliceZero (c : Dev nD) (s : Sl) : sProp 𝕄 :=
  iprop(semVal (xCell c 0 s) 0 ∗ semVal (xCell c 1 s) 0 ∗ semVal (xCell c 2 s) 0 ∗ semVal (xCell c 3 s) 0 ∗ semVal (xCell c 4 s) 0)

/-- What the launch deals device `c`. -/
def ghost (c : Dev nD) : sProp 𝕄 :=
  iprop(records m ρ K ∗ (atPos ER (bCell c) 0 ∅ 0 ∗ bigSep Finset.univ fun s => sliceAt c s)
    ∗ dutyTok ER (bCell (devY c)) 0 false ∗ dutyTok ER (bCell (devX c)) 0 true ∗ bigSep Finset.univ fun s => sliceToks c s)

/-- The protocol state, the memory and the debts of device `c` when its body starts, -/
def bodyStart (f₀ : (cc0_scratch0 : Ref sig .tc).ty.Contents (Elt F)) (f₁ : (cc0_scratch1 : Ref sig .tc).ty.Contents (Elt F))
    (f₂ : (cc0_stg1_0 : Ref sig .tc).ty.Contents (Elt F)) (c : Dev nD) : sProp 𝕄 :=
  iprop(ghost m ρ K c ∗ levAts L lv ∗ (cred (tallyAt (bCell c) () 2) ∗ bigSep Finset.univ fun s => sliceCred c s)
    ∗ owesE c (O₀ c) ∗ xPts m ρ c ∗ (((c : Thread nD τ).loc cc0_scratch0) ↦{fullShare} f₀)
    ∗ (((c : Thread nD τ).loc cc0_scratch1) ↦{fullShare} f₁) ∗ (((c : Thread nD τ).loc cc0_stg1_0) ↦{fullShare} f₂))
/-- and when it ends. -/
def bodyEnd (c : Dev nD) : sProp 𝕄 :=
  iprop((semVal (bCell c) 0 ∗ bigSep Finset.univ fun s => sliceZero c s)
    ∗ owesE c 0 ∗ xPts m ρ c ∗ (((c : Thread nD τ).loc cc0_scratch0) ↦{fullShare} sent m ρ c)
    ∗ (((c : Thread nD τ).loc cc0_scratch1) ↦{fullShare} recvd m ρ c) ∗ (((c : Thread nD τ).loc cc0_stg1_0) ↦{fullShare} res m ρ c))

set_option maxHeartbeats 1000000 in
/-- The body takes the one to the other. -/
theorem body_run (f₀ : (cc0_scratch0 : Ref sig .tc).ty.Contents (Elt F)) (f₁ : (cc0_scratch1 : Ref sig .tc).ty.Contents (Elt F))
    (f₂ : (cc0_stg1_0 : Ref sig .tc).ty.Contents (Elt F)) (c : Dev nD) (Q : PUnit → sProp 𝕄) :
    iprop(bodyStart m ρ K f₀ f₁ f₂ c ∗ (bodyEnd m ρ c -∗ Q ⟨⟩)) ⊢ wpk c passes Q := by
  unfold passes
  simp only [semSignalWord, semWaitWord, Prog.lift, Prog.bind_op, Prog.bind_ret, Prog.pure_eq_ret, wp_deviceId, dev1_eq c, dev2_eq c]
  unfold bodyStart ghost sliceAt sliceToks sliceCred owesE
  simp only [bigSep_sep']
  rw [cPts_cut, rPts_cut, out_cut]
  iintro ⟨⟨⟨#HR, ⟨HatB, Hat0, Hat1, Hat2, Hat3, Hat4⟩, HtY, HtX, Ht0, Ht1, Ht2, Ht3, Ht4⟩, #Hlev, ⟨HcB, Hc1, Hc3⟩,
    ⟨%W, HO⟩, Hx, Hcs, Hrs, ⟨Hown, Hrest⟩, Hoc, Hox⟩, Hk⟩
  -- the signal along `y` hands over the buffer of received rows
  iapply (Rounds.wp_signal 𝒱₀ ER (Rd m ρ) (c : Thread nD τ) none (dst := (devY c : Thread nD τ)) (κ := K (devY c, .inl ()))
      (d := false) (by rw [duties_bar]; exact Finset.mem_univ _) ((amount_bar m ρ (devY c) false).trans (by decide)) () (O₁ c) rfl)
    $$ [HO HtY Hrs]
  · isplitr; · iapply (inv_bar m ρ K (devY c)); iexact HR
    isplitl [HO]; · iexact HO
    isplitl [HtY]; · iexact HtY
    isplitl [Hrs]
    · rw [payload_bar]; unfold barPay; rw [devY_devY]
      iexists f₁; iexact Hrs
    iapply (reached_bar m ρ K (devY c)); iexact HR
  iintro HO
  -- the signal along `x` hands over the rows of the result that the neighbour there writes
  iapply (Rounds.wp_signal 𝒱₀ ER (Rd m ρ) (c : Thread nD τ) none (dst := (devX c : Thread nD τ)) (κ := K (devX c, .inl ()))
      (d := true) (by rw [duties_bar]; exact Finset.mem_univ _) ((amount_bar m ρ (devX c) true).trans (by decide)) () (O₂ c) rfl)
    $$ [HO HtX Hox]
  · isplitr; · iapply (inv_bar m ρ K (devX c)); iexact HR
    isplitl [HO]; · iexact HO
    isplitl [HtX]; · iexact HtX
    isplitl [Hox]
    · rw [payload_bar]; unfold barPay; rw [devX_devX]
      iexists f₂; iexact Hox
    iapply (reached_bar m ρ K (devX c)); iexact HR
  iintro HO
  -- the wait for both neighbours
  iapply (Rounds.wp_wait_rest_token 𝒱₀ ER (Rd m ρ) (c : Thread nD τ) none (κ := K (c, .inl ()))
      (wpE_semWait_eq 𝒱₀ (c : Thread nD τ) none Set.univ) (Set.mem_univ _) () (O := O₂ c) (W := W) (R := 0) (m := 0) (T := ∅)
      (by rw [expect_bar]; decide)) $$ [HcB HO HatB]
  · isplitr; · iapply (inv_bar m ρ K c); iexact HR
    isplitl [HcB]; · iexact HcB
    isplitl [HO]; · iexact HO
    isplitr; · iapply (mayWait c (.reg barS) (O₂ c) (by rw [lv_bar]; exact above_O₂ c)); iexact Hlev
    iexact HatB
  iintro ⟨HO, HatB, -, Hpay⟩
  imod (Rounds.cell_close ER (Rd m ρ) (Set.mem_univ (K (c, .inl ()))) (fun h => h) (R := 0 + 1) (duties_later m ρ (bCell c))) $$ [HatB] with HzB
  · isplitr; · iapply (inv_bar m ρ K c); iexact HR
    iexact HatB
  ihave Hp := (Entails.of_eq (rest_bar m ρ c)) $$ Hpay
  unfold barPay
  icases Hp with ⟨⟨%g₁, HrY⟩, ⟨%g₂, HoX⟩⟩
  -- first pass
  iapply (over_spec c (passSend c) (sendR m ρ K c) (fun s => sendPre f₀ g₁ c s) (fun s => sendPost m ρ c s)
    (fun s l k Q => send_step m ρ K f₀ g₁ c s l k Q) slices)
  isplitl [HO Hx]
  · unfold sendR owesE
    isplitl [HO]; · iexists _; iexact HO
    isplitl [Hx]; · iexact Hx
    iexact HR
  isplitl [Hcs HrY Ht0 Ht1]
  · rw [sendPre_all]
    isplitl [Hcs]; · iexact Hcs
    isplitl [HrY]; · iexact HrY
    isplitl [Ht0] <;> iassumption
  rw [sendPost_all]
  unfold sendR
  rw [owed_nil, add_zero]
  iintro ⟨⟨HO, Hx, -⟩, Hcr, Hc0⟩
  -- the own stores
  iapply (own_step m ρ f₂ c)
  isplitl [Hcr Hx Hown Hrest]
  · rw [cPts_cut]
    isplitl [Hcr]; · iexact Hcr
    isplitl [Hx]; · iexact Hx
    isplitl [Hown] <;> iassumption
  rw [cPts_cut]
  iintro ⟨Hcr, Hx, Hown, Hrest⟩
  -- second pass
  iapply (over_spec c (passForward c) (forwardR m ρ K c) (fun s => forwardPre g₂ f₂ c s) (fun s => forwardPost c s)
    (fun s l k Q => forward_step m ρ K g₂ f₂ c s l k Q) slices)
  isplitl [HO]
  · unfold forwardR
    isplitl [HO]; · iexact HO
    isplitr; · iexact HR
    iexact Hlev
  isplitl [Hat1 Hc1 HoX Hoc Ht2 Ht3 Ht4]
  · rw [forwardPre_all]
    isplitl [Hat1]; · iexact Hat1
    isplitl [Hc1]; · iexact Hc1
    isplitl [HoX]; · iexact HoX
    isplitl [Hoc]; · iexact Hoc
    isplitl [Ht2]; · iexact Ht2
    isplitl [Ht3] <;> iassumption
  rw [forwardPost_all]
  unfold forwardR
  iintro ⟨⟨HO, -, -⟩, Hz1, Hc2, Hc4⟩
  -- third pass
  iapply (over_spec c (passArrive c) (fun _ => restR m ρ K c) (fun s => arrivePre c s) (fun s => arrivePost m ρ c s)
    (fun s l k Q => arrive_step m ρ K c s k Q) slices)
  isplitl [HO]
  · unfold restR
    isplitl [HO]; · iexact HO
    isplitr; · iexact HR
    iexact Hlev
  isplitl [Hat3 Hc3]
  · rw [arrivePre_all]
    isplitl [Hat3] <;> iassumption
  rw [arrivePost_all]
  iintro ⟨HO, Hz3, Hox⟩
  -- fourth pass
  iapply (over_spec c (passDrain c) (fun _ => restR m ρ K c) (fun s => drainPre c s) (fun s => drainPost m ρ c s)
    (fun s l k Q => drain_step m ρ K c s k Q) slices)
  isplitl [HO]; · iexact HO
  isplitl [Hat0 Hat2 Hat4 Hc0 Hc2 Hc4]
  · rw [drainPre_all]
    isplitl [Hat0 Hc0]
    · isplitl [Hat0] <;> iassumption
    isplitl [Hat2 Hc2]
    · isplitl [Hat2] <;> iassumption
    isplitl [Hat4] <;> iassumption
  rw [drainPost_all]
  unfold restR
  iintro ⟨⟨HO, -, -⟩, ⟨Hz0, Hz2, Hz4⟩, Hcl, Hr, Hoc⟩
  unfold wpk; rw [wp_ret]; imodintro
  iapply Hk
  unfold bodyEnd sliceZero
  simp only [bigSep_sep']
  isplitl [HzB Hz0 Hz1 Hz2 Hz3 Hz4]
  · isplitl [HzB]; · iexact HzB
    isplitl [Hz0]; · iexact Hz0
    isplitl [Hz1]; · iexact Hz1
    isplitl [Hz2]; · iexact Hz2
    isplitl [Hz3] <;> iassumption
  isplitl [HO]; · iexact HO
  isplitl [Hx]; · iexact Hx
  isplitl [Hcl Hcr]
  · rw [cPts_cut]; simp only [cPts_halves, bigSep_sep']
    isplitl [Hcl] <;> iassumption
  isplitl [Hr]
  · rw [rPts_cut]; iexact Hr
  rw [out_cut]
  isplitl [Hown Hrest]
  · isplitl [Hown] <;> iassumption
  isplitl [Hoc] <;> iassumption

end Cert.Gather

end
-- ==== Proof.Deal.lean ====
/-
# Dealing out the protocol at launch

The launch creates every cell's state with its duty tokens. Each device closes its own cells into invariants, and the
tokens go to the devices that pay with them: a barrier's tokens and the tokens of the two received families to the
neighbours, the others stay. A device's credit is what the two neighbours owe it.
-/
module

public import proofs.«01_k».proof.Proof.Body
public import Idealize.ShloMosaic.Lib.Pipeline.Launch
public import Idealize.ShloMosaic.Lib.Pipeline.Kit

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families of cells -/

omit [FloatOps F] in
/-- A family over the transfer semaphores is, slice by slice, its five members. -/
theorem bigSep_transfers (Φ : Fin 5 × Sl → sProp 𝕄) :
    bigSep Finset.univ Φ = bigSep Finset.univ fun s : Sl => iprop(Φ (0, s) ∗ Φ (1, s) ∗ Φ (2, s) ∗ Φ (3, s) ∗ Φ (4, s)) := by
  simp only [bigSep_sep']
  rw [bigSep_univ_prod]
  exact bigSep_univ_eq_bigSepL [0, 1, 2, 3, 4] (by decide) (by decide) _
omit [FloatOps F] in
/-- A family over a device's cells is its member at the barrier beside the family over the transfer semaphores. -/
theorem bigSep_cells (Φ : CellIx → sProp 𝕄) :
    bigSep Finset.univ Φ = iprop(Φ (.inl ()) ∗ bigSep Finset.univ fun ks : Fin 5 × Sl => Φ (.inr ks)) := by
  refine (BI.bigSep_univ_sum Φ).trans ?_
  rw [bigSep_univ_eq_bigSepL [()] (by decide) (by decide)]
  rfl

/-! ## Cells and tokens at launch -/

/-- The kernel's own transfer semaphores. -/
abbrev osem : Fin 5 × Sl → SemLoc sig := fun ks => .dma (sem ks.1 ks.2)

def allCells : Finset (GSem nD τ sig) := Finset.univ.map ⟨kcell, kcell_injective⟩

/-- A duty token as it is created: which device's cell, and which duty there. -/
def tokOf (cj : Dev nD × (Bool ⊕ (Fin 5 × Sl))) : GSem nD τ sig × ℕ × Bool :=
  match cj.2 with
  | .inl b => (bCell cj.1, 0, b)
  | .inr ks => (xCell cj.1 ks.1 ks.2, 0, false)
theorem tokOf_injective : Function.Injective tokOf := by
  rintro ⟨c, j⟩ ⟨c', j'⟩ h
  have hd : ∀ x : Dev nD × (Bool ⊕ (Fin 5 × Sl)), (tokOf x).1.1.1 = x.1 := by rintro ⟨x, _ | _⟩ <;> rfl
  have hk : ∀ x : Dev nD × (Bool ⊕ (Fin 5 × Sl)), decode (tokOf x).1.2 = some (x.2.elim (fun _ => .inl ()) .inr) := by
    rintro ⟨x, _ | ks⟩
    · exact decode_bar
    · exact decode_sem ks.1 ks.2
  have h1 : c = c' := (hd _).symm.trans ((congrArg (fun x : GSem nD τ sig × ℕ × Bool => x.1.1.1) h).trans (hd _))
  have h2 := Option.some.inj ((hk _).symm.trans ((congrArg (fun x : GSem nD τ sig × ℕ × Bool => decode x.1.2) h).trans (hk _)))
  have h3 := congrArg (fun x : GSem nD τ sig × ℕ × Bool => x.2.2) h
  refine Prod.ext h1 ?_
  rcases j with b | ks <;> rcases j' with b' | ks'
  · exact congrArg Sum.inl h3
  · exact absurd h2 Sum.inl_ne_inr
  · exact absurd h2 Sum.inr_ne_inl
  · exact congrArg Sum.inr (Sum.inr.inj h2)
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The tokens of the duties at device `c`'s own cells, -/
def ownToks (c : Dev nD) : sProp 𝕄 :=
  iprop((dutyTok ER (bCell c) 0 false ∗ dutyTok ER (bCell c) 0 true)
    ∗ bigSep Finset.univ fun ks : Fin 5 × Sl => dutyTok ER (xCell c ks.1 ks.2) 0 false)
/-- and of the duties that device `c` pays. -/
def payToks (c : Dev nD) : sProp 𝕄 :=
  iprop(dutyTok ER (bCell (devY c)) 0 false ∗ dutyTok ER (bCell (devX c)) 0 true ∗ bigSep Finset.univ fun s => sliceToks c s)

/-- What the launch creates for device `c`, -/
def G (c : Dev nD) : sProp 𝕄 :=
  iprop((bigSep Finset.univ fun k : CellIx => roundState ER (Rd m ρ) (kcell (c, k)) 0)
    ∗ (bigSep Finset.univ fun k : CellIx => iprop(atPos ER (kcell (c, k)) 0 ∅ 0 ∗ reached ER (kcell (c, k)) 0)) ∗ ownToks c)
/-- and what device `c` gets of it. -/
def G' (c : Dev nD) : sProp 𝕄 := iprop(∃ K, ghost m ρ K c)

omit [FloatOps F] in
theorem allCells_eq (Φ : GSem nD τ sig → sProp 𝕄) :
    bigSep allCells Φ = bigSep Finset.univ fun c : Dev nD => bigSep Finset.univ fun k : CellIx => Φ (kcell (c, k)) := by
  unfold allCells; rw [bigSep_map, bigSep_univ_prod]; rfl
omit [FloatOps F] in
theorem allToks_eq :
    bigSep allToks (fun x => (dutyTok ER x.1 x.2.1 x.2.2 : sProp 𝕄)) = bigSep Finset.univ fun c : Dev nD => ownToks c := by
  unfold allToks
  rw [bigSep_map, bigSep_univ_prod]
  refine bigSep_congr fun c _ => ?_
  refine (BI.bigSep_univ_sum _).trans ?_
  rw [bigSep_univ_eq_bigSepL [false, true] (by decide) (by decide)]
  rfl

omit [FloatOps F] in
theorem fund : BI.own (ER (initOf allCells allToks)) ⊢ (|==> bigSep Finset.univ (G m ρ) : sProp 𝕄) := by
  iintro HX
  imod (Rounds.fund ER (Rd m ρ) allCells allToks) $$ HX with ⟨Hst, Hr, Hat, Htok⟩
  imodintro
  ihave Hst := (Entails.of_eq (allCells_eq fun g => roundState ER (Rd m ρ) g 0)) $$ Hst
  ihave Hat := (Entails.of_eq (allCells_eq fun g => atPos ER g 0 ∅ 0)) $$ Hat
  ihave Hr := (Entails.of_eq (allCells_eq fun g => reached ER g 0)) $$ Hr
  ihave Htok := (Entails.of_eq allToks_eq) $$ Htok
  unfold G; simp only [bigSep_sep']
  isplitl [Hst]; · iexact Hst
  isplitl [Hat Hr]
  · isplitl [Hat] <;> iassumption
  iexact Htok

/-! ## Semaphores at zero -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun s : Sl => sliceZero c s := by
  unfold Pipeline.ownSems0; exact bigSep_transfers _
omit [FloatOps F] in
theorem unscopedSems0_eq (c : Dev nD) : (unscopedSems0 c : sProp 𝕄) = semVal (bCell c) 0 := by
  unfold unscopedSems0; rw [bigSep_eq_bigSepL_of_eq [SemLoc.reg barS] (by decide) (by decide)]; rfl
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [unscopedSems0_eq, bigSep_cells]
  unfold Pipeline.ownSems0
  iintro ⟨HS, HB⟩
  isplitl [HB]; · iexact HB
  iexact HS

/-! ## Invariants, and who gets what -/

omit [FloatOps F] in
/-- A device closes its cells, now at zero, into invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Every token goes to the device that pays with it. -/
theorem toks_around : (bigSep Finset.univ fun c : Dev nD => (ownToks c : sProp 𝕄)) ⊢ bigSep Finset.univ fun c : Dev nD => payToks c := by
  unfold ownToks payToks sliceToks
  simp only [bigSep_transfers, bigSep_sep']
  rw [bigSep_univ_equiv permY (fun c : Dev nD => (dutyTok ER (bCell c) 0 false : sProp 𝕄)),
    bigSep_univ_equiv permX (fun c : Dev nD => (dutyTok ER (bCell c) 0 true : sProp 𝕄)),
    bigSep_univ_equiv permY (fun c : Dev nD => (bigSep Finset.univ fun s => dutyTok ER (xCell c 1 s) 0 false : sProp 𝕄)),
    bigSep_univ_equiv permX (fun c : Dev nD => (bigSep Finset.univ fun s => dutyTok ER (xCell c 3 s) 0 false : sProp 𝕄))]
  iintro ⟨⟨HY, HX⟩, H0, H1, H2, H3, H4⟩
  isplitl [HY]; · iexact HY
  isplitl [HX]; · iexact HX
  isplitl [H0]; · iexact H0
  isplitl [H1]; · iexact H1
  isplitl [H2]; · iexact H2
  isplitl [H3]; · iexact H3
  iexact H4

/-- What a device gets beside the records: its positions at its own cells, and the tokens it pays with. -/
def linear (c : Dev nD) : sProp 𝕄 := iprop((bigSep Finset.univ fun k : CellIx => atPos ER (kcell (c, k)) 0 ∅ 0) ∗ payToks c)

omit [FloatOps F] in
theorem ghost_intro (K : Dev nD × CellIx → ℕ) (c : Dev nD) : iprop(records m ρ K ∗ linear c) ⊢ G' m ρ c := by
  unfold linear payToks G' ghost sliceAt
  rw [bigSep_cells, bigSep_transfers]
  iintro ⟨HR, Hat, Htok⟩
  iexists K
  isplitl [HR]; · iexact HR
  isplitl [Hat]; · iexact Hat
  iexact Htok

omit [FloatOps F] in
/-- A persistent fact is available to every member of a family. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × CellIx => iprop(∃ κ : ℕ, cellInv ER (Rd m ρ) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, HR⟩, Htok⟩
  ihave HK := (BI.bigSep_exists_pi Finset.univ (fun (ck : Dev nD × CellIx) (κ : ℕ) => (cellInv ER (Rd m ρ) κ (kcell ck) : sProp 𝕄))) $$ HI
  icases HK with ⟨%K, HI⟩
  ihave Htok := (toks_around (F := F)) $$ Htok
  iapply (bigSep_share (R := records m ρ K) (Φ := linear) fun c _ => ghost_intro m ρ K c)
  isplitl [HI HR]
  · unfold records
    isplitl [HI] <;> iassumption
  unfold linear
  rw [bigSep_sep']
  isplitl [Hat] <;> iassumption

omit [FloatOps F] in
/-- All devices' semaphores and what the launch creates, dealt out. -/
theorem deal : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem xCell_eq_iff (c d : Dev nD) (k l : Fin 5) (s t : Sl) : xCell c k s = xCell d l t ↔ c = d ∧ k = l ∧ s = t := by
  constructor
  · intro h
    have h' := kcell_injective (a₁ := (c, .inr (k, s))) (a₂ := (d, .inr (l, t))) h
    have h2 := Sum.inr.inj (congrArg Prod.snd h')
    exact ⟨congrArg Prod.fst h', congrArg Prod.fst h2, congrArg Prod.snd h2⟩
  · rintro ⟨rfl, rfl, rfl⟩; rfl
theorem bCell_eq_iff (c d : Dev nD) : bCell c = bCell d ↔ c = d :=
  ⟨fun h => congrArg (fun g : GSem nD τ sig => g.1.1) h, fun h => h ▸ rfl⟩
theorem bCell_ne (c d : Dev nD) (k : Fin 5) (s : Sl) : bCell c ≠ xCell d k s := fun h => by cases congrArg Prod.snd h

/-- What is owed for slices is owed to those slices' semaphores. -/
theorem owed_bar (c d : Dev nD) (k : Fin 5) (l : List Sl) : owed d k l (bCell c) () = 0 := by
  induction l with
  | nil => rfl
  | cons s l ih => rw [owed_cons, Pi.add_apply, Finsupp.add_apply, ih, tallyAt_ne_cell (bCell_ne c d k s)]; rfl
theorem owed_x (c d : Dev nD) (k j : Fin 5) (s : Sl) (l : List Sl) (hl : l.Nodup) :
    owed d k l (xCell c j s) () = if c = d ∧ j = k ∧ s ∈ l then N s else 0 := by
  induction l with
  | nil => rw [if_neg fun h => List.not_mem_nil h.2.2]; rfl
  | cons t l ih =>
    have ht := (List.nodup_cons.mp hl).1
    rw [owed_cons, Pi.add_apply, Finsupp.add_apply, ih (List.nodup_cons.mp hl).2, tallyAt_apply]
    simp only [xCell_eq_iff, List.mem_cons, and_true]
    by_cases hst : s = t
    · subst hst; simp [ht]
    · simp [hst]
theorem slices_nodup : slices.Nodup := by decide
theorem mem_slices (s : Sl) : s ∈ slices := by revert s; decide

/-- What device `d` owes device `c`'s cells: a unit at the barrier from each neighbour; -/
theorem O₀_bar (c d : Dev nD) : O₀ d (bCell c) () = (if d = devX c then 1 else 0) + if d = devY c then 1 else 0 := by
  unfold O₀ O₁ O₂
  simp only [Pi.add_apply, Finsupp.add_apply, owed_bar, tallyAt_apply, bCell_eq_iff, and_true, Nat.zero_add]
  congr 1 <;> refine if_congr ⟨fun h => ?_, fun h => ?_⟩ rfl rfl <;> subst h
  · exact (devX_devX d).symm
  · exact (devX_devX c).symm
  · exact (devY_devY d).symm
  · exact (devY_devY c).symm
/-- a slice's credit from the neighbour along `y`, and along `x`. -/
theorem O₀_y (c d : Dev nD) (s : Sl) : O₀ d (xCell c 1 s) () = if d = devY c then N s else 0 := by
  unfold O₀ O₁ O₂
  simp only [Pi.add_apply, Finsupp.add_apply, owed_x _ _ _ _ _ _ slices_nodup, tallyAt_ne_cell (bCell_ne _ _ _ _).symm, Finsupp.zero_apply, Nat.add_zero]
  rw [if_neg fun h => absurd h.2.1 (by decide), Nat.zero_add]
  refine if_congr ⟨fun h => ?_, fun h => ⟨?_, trivial, mem_slices s⟩⟩ rfl rfl
  · rw [h.1, devY_devY]
  · rw [h, devY_devY]
theorem O₀_x (c d : Dev nD) (s : Sl) : O₀ d (xCell c 3 s) () = if d = devX c then N s else 0 := by
  unfold O₀ O₁ O₂
  simp only [Pi.add_apply, Finsupp.add_apply, owed_x _ _ _ _ _ _ slices_nodup, tallyAt_ne_cell (bCell_ne _ _ _ _).symm, Finsupp.zero_apply, Nat.add_zero]
  rw [if_neg (c := c = devY d ∧ _) fun h => absurd h.2.1 (by decide), Nat.add_zero]
  refine if_congr ⟨fun h => ?_, fun h => ⟨?_, trivial, mem_slices s⟩⟩ rfl rfl
  · rw [h.1, devX_devX]
  · rw [h, devX_devX]

omit [FloatOps F] in
/-- A cell's credit at launch is the total that is owed to it. -/
theorem launch_credit (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]
theorem total_bar (c : Dev nD) : ∑ d : Dev nD, O₀ d (bCell c) () = 2 := by
  rw [Finset.sum_congr rfl fun d _ => O₀_bar c d, Finset.sum_add_distrib, Finset.sum_ite_eq' Finset.univ (devX c) fun _ => 1,
    Finset.sum_ite_eq' Finset.univ (devY c) fun _ => 1, if_pos (Finset.mem_univ _), if_pos (Finset.mem_univ _)]
theorem total_y (c : Dev nD) (s : Sl) : ∑ d : Dev nD, O₀ d (xCell c 1 s) () = N s := by
  rw [Finset.sum_congr rfl fun d _ => O₀_y c d s, Finset.sum_ite_eq' Finset.univ (devY c) fun _ => N s, if_pos (Finset.mem_univ _)]
theorem total_x (c : Dev nD) (s : Sl) : ∑ d : Dev nD, O₀ d (xCell c 3 s) () = N s := by
  rw [Finset.sum_congr rfl fun d _ => O₀_x c d s, Finset.sum_ite_eq' Finset.univ (devX c) fun _ => N s, if_pos (Finset.mem_univ _)]

omit [FloatOps F] in
/-- Of five amounts of credit, the second and the fourth are a slice's. -/
theorem sliceCred_intro (c : Dev nD) (s : Sl) (T : Fin 5 → CellTallies nD τ sig Unit)
    (h1 : T 1 = tallyAt (xCell c 1 s) () (N s)) (h3 : T 3 = tallyAt (xCell c 3 s) () (N s)) :
    (iprop(cred (T 0) ∗ cred (T 1) ∗ cred (T 2) ∗ cred (T 3) ∗ cred (T 4)) : sProp 𝕄) ⊢ sliceCred c s := by
  unfold sliceCred
  rw [h1, h3]
  iintro ⟨-, H1, -, H3, -⟩
  isplitl [H1] <;> iassumption

omit [FloatOps F] in
/-- A device's credit at launch has what it needs to wait for its neighbours. -/
theorem creds (c : Dev nD) :
    (Pipeline.launchCred O₀ c : sProp 𝕄) ⊢ iprop(cred (tallyAt (bCell c) () 2) ∗ bigSep Finset.univ fun s => sliceCred c s) := by
  unfold Pipeline.launchCred
  refine (BI.bigSep_subset (Finset.subset_univ (Finset.univ.map ⟨csem, csem_injective⟩))).trans ?_
  rw [bigSep_map, bigSep_cells, bigSep_transfers]
  refine BI.sep_mono (Entails.of_eq (congrArg (fun x => (cred x : sProp 𝕄)) (launch_credit (bCell c) 2 (total_bar c)))) (bigSep_mono fun s _ => ?_)
  exact sliceCred_intro c s (fun k => tallyOn (xCell c k s) (launchCredit (Pipeline.owing O₀) 0 (xCell c k s)))
    (launch_credit _ _ (total_y c s)) (launch_credit _ _ (total_x c s))

end Cert.Gather

end
-- ==== Proof.Launch.lean ====
/-
# The run of the program

The kernel is launched on the four devices with no grid, so its pipeline has one point: the block of the argument is
copied in, the body runs, the result is copied out. Here the body's theorem is put into the pipeline library's form and
the launch theorem is applied. The result: every run ends, with the result array at `res`, the argument unchanged and
every semaphore at zero.
-/
module

public import proofs.«01_k».proof.Proof.Deal
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What device `c` has at its only point beside its buffers, -/
def start (c : Dev nD) : sProp 𝕄 :=
  iprop(G' m ρ c ∗ levAts L lv ∗ cred (tallyAt (bCell c) () 2) ∗ bigSep Finset.univ fun s => sliceCred c s)
/-- a scratch buffer with any contents, -/
def scratch (c : Dev nD) (b : Ref sig .tc) : sProp 𝕄 := iprop(∃ f : Buf (Elt F) ((c : Thread nD τ).loc b), ((c : Thread nD τ).loc b) ↦{fullShare} f)
/-- what it has before the point, and after. -/
def before (c : Dev nD) : sProp 𝕄 := iprop(start m ρ c ∗ scratch c cc0_scratch0 ∗ scratch c cc0_scratch1)
def afterwards (c : Dev nD) : sProp 𝕄 :=
  iprop((semVal (bCell c) 0 ∗ bigSep Finset.univ fun s => sliceZero c s) ∗ scratch c cc0_scratch0 ∗ scratch c cc0_scratch1)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => res m ρ c
  Φ t := match t with
    | ⟨0, _⟩ => before m ρ c
    | ⟨_ + 1, _⟩ => afterwards c
  q _ := fullShare
  owed t := match t with
    | ⟨0, _⟩ => O₀ c
    | ⟨_ + 1, _⟩ => 0

/-- The staging buffer `b` holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem before_x (c : Dev nD) (d) : (dats m ρ 0 c).before (0 : Fin 2) t0_0 d = xstg m ρ c := by
  unfold Dat.before
  rw [if_pos (show (cfg0.win (0 : Fin 2)).fetch t0_0 = true from rfl)]
  rfl

theorem owes_intro (c : Dev nD) : (dats m ρ 0 c).owesAt () t0_0.castSucc ⊢ (owesE c (O₀ c) : sProp 𝕄) := by
  unfold Dat.owesAt Pipeline.owesWithin owesE
  iintro ⟨%W, -, HO⟩
  iexists W; iexact HO
theorem owes_exit (c : Dev nD) : (owesE c 0 : sProp 𝕄) ⊢ (dats m ρ 0 c).owesAt () t0_0.succ := by
  unfold Dat.owesAt Pipeline.owesWithin owesE
  iintro ⟨%W, HO⟩
  iexists W
  isplitr; · ipureintro; exact fun _ _ => Or.inl trivial
  iexact HO

/-- The kernel's body between the states that the pipeline has it in. -/
theorem body_point (c : Dev nD) :
    iprop(before m ρ c ∗ (dats m ρ 0 c).owesAt () t0_0.castSucc
        ∗ (∃ d, stg c cc0_stg0_0 ((dats m ρ 0 c).before (0 : Fin 2) t0_0 d))
        ∗ (∃ d, stg c cc0_stg1_0 ((dats m ρ 0 c).before (1 : Fin 2) t0_0 d)))
      ⊢ wpk c passes (fun _ => iprop(afterwards c ∗ (dats m ρ 0 c).owesAt () t0_0.succ ∗ stg c cc0_stg0_0 (xstg m ρ c) ∗ stg c cc0_stg1_0 (res m ρ c))) := by
  unfold before start G' scratch
  iintro ⟨⟨⟨⟨%K, HG⟩, Hlev, Hcr⟩, ⟨%f₀, H0⟩, ⟨%f₁, H1⟩⟩, HO, ⟨%d, %gx, %hx, Hx⟩, ⟨%d', %f₂, %hf, Hout⟩⟩
  rw [before_x] at hx
  subst hx
  iapply (body_run m ρ K f₀ f₁ f₂ c)
  isplitl
  · unfold bodyStart
    isplitl [HG]; · iexact HG
    isplitl [Hlev]; · iexact Hlev
    isplitl [Hcr]; · iexact Hcr
    isplitl [HO]; · iapply (owes_intro m ρ c); iexact HO
    isplitl [Hx]; · unfold xPts; iexact Hx
    isplitl [H0]; · iexact H0
    isplitl [H1] <;> iassumption
  · unfold bodyEnd afterwards scratch
    iintro ⟨Hz, HO, Hx, H0, H1, Hout⟩
    isplitl [Hz H0 H1]
    · isplitl [Hz]; · iexact Hz
      isplitl [H0]; · iexists _; iexact H0
      iexists _; iexact H1
    isplitl [HO]; · iapply (owes_exit m ρ c); iexact HO
    isplitl [Hx]
    · iexists _; isplitr; · (ipureintro; rfl)
      unfold xPts; iexact Hx
    iexists _; isplitr; · (ipureintro; rfl)
    iexact Hout

set_option maxRecDepth 65536 in
theorem body_obligation (c : Dev nD) : BodyObligation (dats (F := F) m ρ 0 c) (defs₀ (F := F)) 𝒱₀ () Set.univ := fun t => by
  obtain rfl := fin_N0 t
  rw [bigSep_W0, bigSep_W0]
  simp only [owns_whole_eq]
  exact (body_point m ρ c).trans (Entails.of_eq (congrArg (fun p => wpk c p _) body_eq.symm))

/-! ## The launch theorem's side conditions -/

theorem ownSemFacts : Pipeline.OwnSemFacts cfg0.spec osem := by decide +kernel
theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hlev] <;> iassumption
  · iempintro

theorem before_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before scratch
  iintro ⟨Hs, -, Hr⟩
  isplitl [Hs] <;> iassumption

theorem after_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = afterwards c from rfl, scopedRest0_eq, ownSems0_eq, unscopedSems0_eq]
  unfold afterwards scratch
  iintro ⟨⟨HB, Hz⟩, Hr⟩
  isplitl [HB]; · iexact HB
  isplitl [Hz] <;> iassumption

/-- The pipeline's own semaphores lie below everything that is owed. -/
theorem lv_stage (c : Dev nD) (q : DmaSem sig) (hq : q.val < 2) : lv ((c : Thread nD τ), .dma q) () = 0 := by
  unfold lv decode
  dsimp only
  rw [dif_neg (by omega)]
  rfl
theorem waits (c : Dev nD) : (levAts L lv : sProp 𝕄) ⊢ Pipeline.cellsWaits cfgs (dats m ρ) () 0 c :=
  Pipeline.cellsWaits_intro cfgs (dats m ρ) () 0 c fun w s t =>
    mayWait c (.dma _) _ (by
      rw [lv_stage c _ (by fin_cases w <;> fin_cases s <;> decide)]
      rcases t with ⟨_ | _, ht⟩
      · exact above_O₀ c
      · exact above_zero 0)

/-! ## The run -/

set_option maxRecDepth 65536 in
/-- Every run ends, with each array at what the pipeline's data say and every semaphore at zero. -/
theorem run_arrays : θ_run defs (onTc (τ := τ) (main (F := F))) (s₀ m ρ)
    (fun r => (∀ (c : Dev nD) (w : Fin cfg0.W), r.2.mem ((cfg0.win w).arr.view.loc (c : Thread nD τ)) = (dats m ρ 0 c).arrAt w cfg0.N) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := deal m ρ)
    (hA := fun _ _ => rfl) (hpf := fun _ k => k.elim0)
    (X := start m ρ) (Y := fun c => unscopedSems0 c) (Z := fun _ => iprop(emp))
    (hX := start_intro m ρ) (hin := before_intro m ρ) (hout := after_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem arg_kept (c : Dev nD) : (dats m ρ 0 c).arrAt (0 : Fin 2) cfg0.N = m ((c : Thread nD τ).loc main_arg0) :=
  (dats (F := F) m ρ 0 c).arrAt_in (0 : Fin 2) rfl _

/-- The result array is the one block that the pipeline copies out. -/
theorem blk_set : ((cfg0.win (1 : Fin 2)).blk t0_0).view.set = Finset.univ := by
  show ((View.whole main_v1).slice (win0_1.rect (0 : Fin 1))).set = Finset.univ
  rw [View.set_slice_whole]
  exact Finset.eq_univ_iff_forall.mpr fun i => Rect.mem_set_unit.mpr fun a => by
    fin_cases a
    · exact ⟨Nat.zero_le _, (i 0).isLt⟩
    · exact ⟨Nat.zero_le _, (i 1).isLt⟩
theorem result_eq (c : Dev nD) : (dats m ρ 0 c).arrAt (1 : Fin 2) cfg0.N = res m ρ c :=
  (dats m ρ 0 c).arrAt_eq_of_cover (1 : Fin 2) (res m ρ c)
    (fun t _ => by
      obtain rfl := fin_N0 t
      have ha : (dats m ρ 0 c).after (1 : Fin 2) t0_0 = res m ρ c := rfl
      unfold Dat.flushed
      rw [ha]
      funext x
      show res m ρ c ((cfg0.win (1 : Fin 2)).xinj _ x) = res m ρ c ((win0_1.rect (0 : Fin 1)).emb x)
      refine congrArg (res m ρ c) (funext fun a => Fin.ext ?_)
      exact (Pipeline.Window.rect_emb_val_of_index_zero win0_1 (0 : Fin 1) a rfl x).symm)
    (fun i => ⟨t0_0, rfl, by rw [blk_set]; exact Finset.mem_univ i⟩)

/-- Every run of the program ends, with the result array of each device at `res`, its argument unchanged, and every
    semaphore at zero. -/
theorem run_main : θ_run defs (onTc (τ := τ) (main (F := F))) (s₀ m ρ)
    (fun r => (∀ c : Dev nD, r.2.mem ((c : Thread nD τ).loc main_v1) = res m ρ c
        ∧ r.2.mem ((c : Thread nD τ).loc main_arg0) = m ((c : Thread nD τ).loc main_arg0)) ∧ r.2.sem = fun _ => 0) :=
  (θ_run defs _ _).mono (fun r h => ⟨fun c => ⟨(h.1 c (1 : Fin 2)).trans (result_eq m ρ c), (h.1 c (0 : Fin 2)).trans (arg_kept m ρ c)⟩, h.2⟩)
    (run_arrays m ρ)

end Cert.Gather

end
-- ==== Proof.Value.lean ====
/-
# The result is the whole array

Each device's argument is the block of rows that its position along `y` names; the result of every device is the whole
array those blocks are cut from. Nothing here depends on the interpretation of the floats, as elements are only moved.
-/
module

public import proofs.«01_k».proof.Proof.Launch
public import Idealize.ShloMosaic.Lib.Layout

@[expose] public section

noncomputable section

namespace Cert.Gather

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-- The block that the pipeline copies in is the whole argument of the device. -/
theorem xstg_arg (c : Dev nD) (i : S2048x512.Idx) : xstg m ρ c i = m ((c : Thread nD τ).loc main_arg0) i := by
  show m ((c : Thread nD τ).loc main_arg0) ((win0_0.rect (0 : Fin 1)).emb i) = _
  exact congrArg (m ((c : Thread nD τ).loc main_arg0))
    (funext fun a => Fin.ext (Pipeline.Window.rect_emb_val_of_index_zero win0_0 (0 : Fin 1) a rfl i))

/-- The block of rows that a device has is its position along `y`. -/
theorem block_row (c : Dev nD) : Layout.meshLin [2, 2] c.val [1] = c.val % 2 := by revert c; decide

/-- The device that the rows `b` of the result come from is at position `b` along `y`. -/
theorem srcDev_mod (c : Dev nD) (b h : ℕ) (hb : b < 2) : (srcDev c b h).val % 2 = b := by
  unfold srcDev
  split
  · rename_i hc; exact hc.symm
  · show (2 * h + b) % 4 % 2 = b; omega

/-- If each device starts with its block of rows of `X`, the result of every device is `X`. -/
theorem res_eq_whole (X : S4096x512.Idx → Elt F .bf16)
    (hX : ∀ c : Dev nD, m ((c : Thread nD τ).loc main_arg0)
      = Layout.blockN ⟨2, ![2048, 512]⟩ ⟨2, ![4096, 512]⟩ (Layout.meshBlock [2, 2] ![[1], []] c) X)
    (c : Dev nD) : res m ρ c = X := by
  funext (i : S4096x512.Idx)
  have h0 : (i 0).val < 4096 := (i 0).isLt
  have h1 : (i 1).val < 512 := (i 1).isLt
  show xval m ρ _ _ _ = X i
  unfold xval
  rw [xstg_arg, hX, Layout.blockN_apply]
  refine congrArg X (funext fun a => Fin.ext ((Layout.TilesN.idx_val _ _ _ _).trans ?_))
  match a with
  | ⟨0, _⟩ =>
    show Layout.meshLin [2, 2] (srcDev c _ _).val [1] * 2048 + (i 0).val % 2048 % 2048 = (i 0).val
    rw [block_row, srcDev_mod c _ _ (by omega)]; omega
  | ⟨1, _⟩ =>
    show 0 * 512 + (i 1).val % 512 = (i 1).val
    omega

end Cert.Gather

end
-- ==== Proof.Same.lean ====
/-
# The kernel as it is printed for either interpretation of the floats

`Kernel` and `KernelIdeal` are printed from the same function without a rewrite, so they are the same program in two
namespaces: a run of the one is a run of the other.
-/
module

public import proofs.«01_k».proof.Proof.Launch
public import proofs.«01_k».proof.Proof.Gen.Kernel

@[expose] public section

namespace Cert.Gather

open Idealize.ShloMosaic Idealize.SL.Sem

variable {F : FTy → Type} [FloatOps F]

/-- Both programs' kernels do the same at each label. -/
theorem defs₀_same : Cert.Kernel.defs₀ (F := F) = Cert.KernelIdeal.defs₀ (F := F) :=
  congrArg Defs.onTc (funext fun ℓ => funext fun a => match ℓ, a with
    | ⟨0, _⟩, (t, s) => rfl
    | ⟨_ + 1, h⟩, _ => absurd h (Nat.not_lt.2 (Nat.le_add_left _ _)))

/-- Both programs' tables of bodies agree. -/
theorem defs_same : Cert.Kernel.defs (F := F) = Cert.KernelIdeal.defs (F := F) :=
  congrArg (Pipeline.defs Cert.Kernel.pcfgs) defs₀_same

/-- What `KernelIdeal` ends with when run, `Kernel` does as well. -/
theorem run_same (s : MemSt Cert.Kernel.nD Cert.Kernel.τ Cert.Kernel.sig (Elt F))
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  (congrArg (fun D => θ_run D (onTc (τ := Cert.Kernel.τ) (Cert.Kernel.main (F := F))) s Q) defs_same).mpr h

end Cert.Gather

end
-- ==== Proof.lean ====
/-
# The claims

The kernel is an all-gather along `y` of a 2×2 mesh. Its run is proved once, for every interpretation of the floats
(`Cert.Gather.run_main`); its frames are that run at `Bits` and at `Ideal`, and its value is that the result of every
device is the whole array (`Cert.Gather.res_eq_whole`), which the reference returns.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Value
public import proofs.«01_k».proof.Proof.Same
public import Idealize.ShloMosaic.Lib.StableHlo.RunHlo
public import Idealize.ShloMosaic.Lib.Quiescent
public import Idealize.ShloMosaic.Adequacy
public import Idealize.ShloMosaic.Init

@[expose] public section

noncomputable section

namespace Cert.Proof

open Idealize.ShloMosaic Idealize.SL.Sem

/-- The reference runs no operation: it ends with its argument as it was. -/
theorem run_reference {F : FTy → Type} [FloatOps F]
    (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩
      (fun r => ∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  θ_run_mono (StableHlo.run_hlo Cert.ReferenceIdeal.defs Cert.ReferenceIdeal.main (ops := [])
      (fun _ => StableHlo.IsSeq.nil) (by decide) (by decide) trivial (by simp) m ρ)
    fun _ h c => h c Cert.ReferenceIdeal.main_arg0

/-- The kernel ends on every device with its argument unchanged, and leaves no count on a semaphore. -/
theorem frame_kernel : Cert.quiescent_Kernel := fun m ρ _ =>
  Cert.Gather.run_same _ _ <|
    (θ_run Cert.KernelIdeal.defs _ _).mono (fun _ h => ⟨fun c => (h.1 c).2, h.2⟩) (Cert.Gather.run_main (F := Bits) m ρ)

/-- The same in exact arithmetic. -/
theorem frame_kernelIdeal : Cert.quiescent_KernelIdeal := fun m ρ _ =>
  (θ_run Cert.KernelIdeal.defs _ _).mono (fun _ h => ⟨fun c => (h.1 c).2, h.2⟩) (Cert.Gather.run_main (F := Ideal) m ρ)

/-- The reference ends with its argument unchanged; it has no semaphore. -/
theorem frame_referenceIdeal : Cert.quiescent_ReferenceIdeal := fun m ρ _ =>
  θ_run_mono (run_reference (F := Ideal) m ρ) fun r h => ⟨h, sem_eq_zero_of_no_sems (by decide) r.2⟩

/-- Reading the kernel in exact arithmetic rewrote none of its operations. -/
theorem preserves : Cert.preserves_Kernel_KernelIdeal := trivial

/-- The reference at `Bits`: the same program, so the same run. -/
theorem frame_reference : Cert.quiescent_Reference := fun m ρ _ =>
  θ_run_mono (run_reference (F := Bits) m ρ) fun r h => ⟨h, sem_eq_zero_of_no_sems (by decide) r.2⟩

/-- Each device ends with the whole array, of which it started with the block of rows at its position along `y`, for
    every interpretation of the floats. -/
theorem gathers {F : FTy → Type} [FloatOps F]
    (m : (ℓ : Loc Cert.KernelIdeal.nD Cert.KernelIdeal.τ Cert.KernelIdeal.sig) → Buf (Elt F) ℓ) (ρ : Dev Cert.KernelIdeal.nD → PrngReg)
    (X : Cert.KernelIdeal.S4096x512.Idx → Elt F .bf16)
    (hX : ∀ c : Dev Cert.KernelIdeal.nD, m ((c.tc : Thread Cert.KernelIdeal.nD Cert.KernelIdeal.τ).loc Cert.KernelIdeal.main_arg0)
      = Layout.blockN ⟨2, ![2048, 512]⟩ ⟨2, ![4096, 512]⟩ (Layout.meshBlock [2, 2] ![[1], []] c) X) :
    θ_run (Cert.KernelIdeal.defs (F := F)) (onTc (τ := Cert.KernelIdeal.τ) (Cert.KernelIdeal.main (F := F))) ⟨m, fun _ => 0, ρ⟩
      (fun r => ∀ c : Dev Cert.KernelIdeal.nD,
        r.2.mem ((c.tc : Thread Cert.KernelIdeal.nD Cert.KernelIdeal.τ).loc Cert.KernelIdeal.main_v1) = X
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) :=
  (θ_run Cert.KernelIdeal.defs _ _).mono
    (fun _ h c => ⟨(h.1 c).1.trans (Cert.Gather.res_eq_whole m ρ X hX c), (h.1 c).2⟩) (Cert.Gather.run_main m ρ)

/-- Over the extended reals every device ends with the reference's result. -/
theorem algebraic : Cert.algebraic_KernelIdeal_ReferenceIdeal := fun m ρ m' ρ' _ hX =>
  ⟨m' (((0 : Dev Cert.ReferenceIdeal.nD).tc : Thread Cert.ReferenceIdeal.nD Cert.ReferenceIdeal.τ).loc Cert.ReferenceIdeal.main_arg0),
    gathers (F := Ideal) m ρ _ hX, θ_run_mono (run_reference (F := Ideal) m' ρ') fun _ h => ⟨h 0, h 0⟩⟩

/-- Every device ends with the reference's result bit for bit. -/
theorem bitexact : Cert.bitexact_Kernel_Reference := fun m ρ m' ρ' _ hX =>
  ⟨m' (((0 : Dev Cert.Reference.nD).tc : Thread Cert.Reference.nD Cert.Reference.τ).loc Cert.Reference.main_arg0),
    Cert.Gather.run_same _ _ (gathers (F := Bits) m ρ _ hX), θ_run_mono (run_reference (F := Bits) m' ρ') fun _ h => ⟨h 0, h 0⟩⟩

/-- All the claims together. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, preserves, algebraic, bitexact⟩

end Cert.Proof

end
